-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S512x1 : Shape := ⟨2, ![512, 1]⟩
abbrev S512 : Shape := ⟨1, ![512]⟩
abbrev S_ : Shape := ⟨0, ![]⟩
abbrev S512x256x1 : Shape := ⟨3, ![512, 256, 1]⟩
abbrev S1x256x32 : Shape := ⟨3, ![1, 256, 32]⟩
abbrev S512x256x32 : Shape := ⟨3, ![512, 256, 32]⟩
abbrev S512x1x1 : Shape := ⟨3, ![512, 1, 1]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S_S256x32 : S_.BroadcastsInDim S256x32 (![] : Fin 0 → Fin S256x32.rank)
  bcast_S256x32_S1x256x32_1_2 : S256x32.BroadcastsInDim S1x256x32 (![1, 2] : Fin 2 → Fin S1x256x32.rank)
  bcast_S512x256x1_S512x256x32_0_1_2 : S512x256x1.BroadcastsInDim S512x256x32 (![0, 1, 2] : Fin 3 → Fin S512x256x32.rank)
  bcast_S1x256x32_S512x256x32_0_1_2 : S1x256x32.BroadcastsInDim S512x256x32 (![0, 1, 2] : Fin 3 → Fin S512x256x32.rank)
  bcast_S512_S512x1x1_0 : S512.BroadcastsInDim S512x1x1 (![0] : Fin 1 → Fin S512x1x1.rank)
  bcast_S512x1x1_S512x256x32_0_1_2 : S512x1x1.BroadcastsInDim S512x256x32 (![0, 1, 2] : Fin 3 → Fin S512x256x32.rank)

variable [Facts]

def fn_part1 {F : FTy → Type} [FloatOps F] (main_arg1 : FVec F S256x32 .f32) (main_v16 : IVec S512 1) (main_v17 : FVec F S512x256 .f32) (main_v18 : FVec F S512x256 .f32) : IVec S512x256x32 1 :=
  let main_v19 : IVec S512x256 1 := cmpf .olt main_v17 main_v18
  let main_v20 : IVec S512x256x1 1 := broadcastInDim S512x256x1 ![0, 1] bcast_S512x256_S512x256x1_0_1 main_v19
  let main_v21 : FVec F S256x32 .f32 := Host.absf main_arg1
  let main_cst_3 : FVec F S_ .f32 := constant S_ .f32 0x7F800000#32
  let main_v22 : FVec F S256x32 .f32 := broadcastInDim S256x32 ![] bcast_S_S256x32 main_cst_3
  let main_v23 : IVec S256x32 1 := cmpf .olt main_v21 main_v22
  let main_v24 : IVec S1x256x32 1 := broadcastInDim S1x256x32 ![1, 2] bcast_S256x32_S1x256x32_1_2 main_v23
  let main_v25 : IVec S512x256x32 1 := broadcastInDim S512x256x32 ![0, 1, 2] bcast_S512x256x1_S512x256x32_0_1_2 main_v20
  let main_v26 : IVec S512x256x32 1 := broadcastInDim S512x256x32 ![0, 1, 2] bcast_S1x256x32_S512x256x32_0_1_2 main_v24
  let main_v27 : IVec S512x256x32 1 := andi main_v25 main_v26
  let main_v28 : IVec S512x1x1 1 := broadcastInDim S512x1x1 ![0] bcast_S512_S512x1x1_0 main_v16
  let main_v29 : IVec S512x256x32 1 := broadcastInDim S512x256x32 ![0, 1, 2] bcast_S512x1x1_S512x256x32_0_1_2 main_v28
  let main_v30 : IVec S512x256x32 1 := andi main_v29 main_v27
  main_v30

def fn {F : FTy → Type} [FloatOps F] (main_arg0 : FVec F S512x256 .f32) (main_arg1 : FVec F S256x32 .f32) (main_arg2 : IVec S512x2 32) (main_arg3 : FVec F S2x256x512 .f32) : IVec S512x256x32 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_c : IVec S_ 32 := constantI S_ 32 0#32
  let main_v4 : IVec S512 32 := broadcastInDim S512 ![] bcast_S_S512 main_c
  let main_v5 : IVec S512 1 := cmpi .sge main_v1 main_v4
  let main_c_0 : IVec S_ 32 := constantI S_ 32 32#32
  let main_v6 : IVec S512 32 := broadcastInDim S512 ![] bcast_S_S512 main_c_0
  let main_v7 : IVec S512 1 := cmpi .slt main_v1 main_v6
  let main_v8 : IVec S512 1 := andi main_v5 main_v7
  let main_c_1 : IVec S_ 32 := constantI S_ 32 0#32
  let main_v9 : IVec S512 32 := broadcastInDim S512 ![] bcast_S_S512 main_c_1
  let main_v10 : IVec S512 1 := cmpi .sge main_v3 main_v9
  let main_v11 : IVec S512 1 := andi main_v8 main_v10
  let main_c_2 : IVec S_ 32 := constantI S_ 32 32#32
  let main_v12 : IVec S512 32 := broadcastInDim S512 ![] bcast_S_S512 main_c_2
  let main_v13 : IVec S512 1 := cmpi .slt main_v3 main_v12
  let main_v14 : IVec S512 1 := andi main_v11 main_v13
  let main_v15 : IVec S512 1 := cmpi .ne main_v1 main_v3
  let main_v16 : IVec S512 1 := andi main_v14 main_v15
  let main_v17 : FVec F S512x256 .f32 := Host.absf main_arg0
  let main_cst : FVec F S_ .f32 := constant S_ .f32 0x7F800000#32
  let main_v18 : FVec F S512x256 .f32 := broadcastInDim S512x256 ![] bcast_S_S512x256 main_cst
  fn_part1 (F := F) main_arg1 main_v16 main_v17 main_v18
-- ==== Pre_routed_ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S512x1 : Shape := ⟨2, ![512, 1]⟩
abbrev S512 : Shape := ⟨1, ![512]⟩
abbrev S_ : Shape := ⟨0, ![]⟩
abbrev S512x256x1 : Shape := ⟨3, ![512, 256, 1]⟩
abbrev S1x256x32 : Shape := ⟨3, ![1, 256, 32]⟩
abbrev S512x256x32 : Shape := ⟨3, ![512, 256, 32]⟩
abbrev S512x1x1 : Shape := ⟨3, ![512, 1, 1]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S_S256x32 : S_.BroadcastsInDim S256x32 (![] : Fin 0 → Fin S256x32.rank)
  bcast_S256x32_S1x256x32_1_2 : S256x32.BroadcastsInDim S1x256x32 (![1, 2] : Fin 2 → Fin S1x256x32.rank)
  bcast_S512x256x1_S512x256x32_0_1_2 : S512x256x1.BroadcastsInDim S512x256x32 (![0, 1, 2] : Fin 3 → Fin S512x256x32.rank)
  bcast_S1x256x32_S512x256x32_0_1_2 : S1x256x32.BroadcastsInDim S512x256x32 (![0, 1, 2] : Fin 3 → Fin S512x256x32.rank)
  bcast_S512_S512x1x1_0 : S512.BroadcastsInDim S512x1x1 (![0] : Fin 1 → Fin S512x1x1.rank)
  bcast_S512x1x1_S512x256x32_0_1_2 : S512x1x1.BroadcastsInDim S512x256x32 (![0, 1, 2] : Fin 3 → Fin S512x256x32.rank)

variable [Facts]

def fn_part1 {F : FTy → Type} [FloatOps F] (main_arg1 : FVec F S256x32 .f32) (main_v16 : IVec S512 1) (main_v17 : FVec F S512x256 .f32) (main_v18 : FVec F S512x256 .f32) : IVec S512x256x32 1 :=
  let main_v19 : IVec S512x256 1 := cmpf .olt main_v17 main_v18
  let main_v20 : IVec S512x256x1 1 := broadcastInDim S512x256x1 ![0, 1] bcast_S512x256_S512x256x1_0_1 main_v19
  let main_v21 : FVec F S256x32 .f32 := Host.absf main_arg1
  let main_cst_3 : FVec F S_ .f32 := constant S_ .f32 0x7F800000#32
  let main_v22 : FVec F S256x32 .f32 := broadcastInDim S256x32 ![] bcast_S_S256x32 main_cst_3
  let main_v23 : IVec S256x32 1 := cmpf .olt main_v21 main_v22
  let main_v24 : IVec S1x256x32 1 := broadcastInDim S1x256x32 ![1, 2] bcast_S256x32_S1x256x32_1_2 main_v23
  let main_v25 : IVec S512x256x32 1 := broadcastInDim S512x256x32 ![0, 1, 2] bcast_S512x256x1_S512x256x32_0_1_2 main_v20
  let main_v26 : IVec S512x256x32 1 := broadcastInDim S512x256x32 ![0, 1, 2] bcast_S1x256x32_S512x256x32_0_1_2 main_v24
  let main_v27 : IVec S512x256x32 1 := andi main_v25 main_v26
  let main_v28 : IVec S512x1x1 1 := broadcastInDim S512x1x1 ![0] bcast_S512_S512x1x1_0 main_v16
  let main_v29 : IVec S512x256x32 1 := broadcastInDim S512x256x32 ![0, 1, 2] bcast_S512x1x1_S512x256x32_0_1_2 main_v28
  let main_v30 : IVec S512x256x32 1 := andi main_v29 main_v27
  main_v30

def fn {F : FTy → Type} [FloatOps F] (main_arg0 : FVec F S512x256 .f32) (main_arg1 : FVec F S256x32 .f32) (main_arg2 : IVec S512x2 32) (main_arg3 : FVec F S32x256x512 .f32) : IVec S512x256x32 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_c : IVec S_ 32 := constantI S_ 32 0#32
  let main_v4 : IVec S512 32 := broadcastInDim S512 ![] bcast_S_S512 main_c
  let main_v5 : IVec S512 1 := cmpi .sge main_v1 main_v4
  let main_c_0 : IVec S_ 32 := constantI S_ 32 32#32
  let main_v6 : IVec S512 32 := broadcastInDim S512 ![] bcast_S_S512 main_c_0
  let main_v7 : IVec S512 1 := cmpi .slt main_v1 main_v6
  let main_v8 : IVec S512 1 := andi main_v5 main_v7
  let main_c_1 : IVec S_ 32 := constantI S_ 32 0#32
  let main_v9 : IVec S512 32 := broadcastInDim S512 ![] bcast_S_S512 main_c_1
  let main_v10 : IVec S512 1 := cmpi .sge main_v3 main_v9
  let main_v11 : IVec S512 1 := andi main_v8 main_v10
  let main_c_2 : IVec S_ 32 := constantI S_ 32 32#32
  let main_v12 : IVec S512 32 := broadcastInDim S512 ![] bcast_S_S512 main_c_2
  let main_v13 : IVec S512 1 := cmpi .slt main_v3 main_v12
  let main_v14 : IVec S512 1 := andi main_v11 main_v13
  let main_v15 : IVec S512 1 := cmpi .ne main_v1 main_v3
  let main_v16 : IVec S512 1 := andi main_v14 main_v15
  let main_v17 : FVec F S512x256 .f32 := Host.absf main_arg0
  let main_cst : FVec F S_ .f32 := constant S_ .f32 0x7F800000#32
  let main_v18 : FVec F S512x256 .f32 := broadcastInDim S512x256 ![] bcast_S_S512x256 main_cst
  fn_part1 (F := F) main_arg1 main_v16 main_v17 main_v18
-- ==== Kernel.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S512x512 : Shape := ⟨2, ![512, 512]⟩
abbrev S16x32x512 : Shape := ⟨3, ![16, 32, 512]⟩
abbrev S32x512 : Shape := ⟨2, ![32, 512]⟩
abbrev S16 : Shape := ⟨1, ![16]⟩
abbrev S_ : Shape := ⟨0, ![]⟩
abbrev S512x32 : Shape := ⟨2, ![512, 32]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S1 : Shape := ⟨1, ![1]⟩
abbrev S1x32x512 : Shape := ⟨3, ![1, 32, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x2, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x32, .f32⟩
  | .local _ .vmem, ⟨2, _⟩ => ⟨S512x2, .i32⟩
  | .local _ .vmem, ⟨3, _⟩ => ⟨S2x256x512, .f32⟩
  | .local _ .vmem, ⟨4, _⟩ => ⟨S512x512, .f32⟩
  | .local _ .vmem, ⟨5, _⟩ => ⟨S512x512, .bf16⟩
  | .local _ .vmem, ⟨6, _⟩ => ⟨S16x32x512, .bf16⟩
  | .local _ .vmem, ⟨7, _⟩ => ⟨S32x512, .bf16⟩
  | .local _ .vmem, ⟨8, _⟩ => ⟨S16x32x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_94 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v149 : BitVec 32 := Scalar.addi v2 c1_i32_94
  let c16_i32_95 : BitVec 32 := 16#32
  let v150 : BitVec 32 := Scalar.remsi v149 c16_i32_95
  ![v150.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_98 : BitVec 32 := 0#32
  let c0_i32_99 : BitVec 32 := 0#32
  ![v2.toNat, 0, 0]
def k0_off4 (d0 : Dev nD) (c1_i32_94 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v149 : BitVec 32 := Scalar.addi v2 c1_i32_94
  let c16_i32_95 : BitVec 32 := 16#32
  let v150 : BitVec 32 := Scalar.remsi v149 c16_i32_95
  let c32_i32 : BitVec 32 := 32#32
  let v151 : BitVec 32 := Scalar.muli v150 c32_i32
  let c0_i32_100 : BitVec 32 := 0#32
  ![v151.toNat, 0]
def k0_dev16 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_94 : BitVec 32 := 1#32
  let v149 : BitVec 32 := Scalar.addi v2 c1_i32_94
  let c16_i32_95 : BitVec 32 := 16#32
  let v150 : BitVec 32 := Scalar.remsi v149 c16_i32_95
  let c1_i32_96 : BitVec 32 := 1#32
  let v152 : BitVec 32 := Scalar.muli v150 c1_i32_96
  let v153 : BitVec 32 := Scalar.addi c0_i32_97 v152
  v153.toNat
def k0_dev17 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_101 : BitVec 32 := 2#32
  let v161 : BitVec 32 := Scalar.addi v2 c2_i32_101
  let c16_i32_102 : BitVec 32 := 16#32
  let v162 : BitVec 32 := Scalar.remsi v161 c16_i32_102
  let c1_i32_104 : BitVec 32 := 1#32
  let v164 : BitVec 32 := Scalar.muli v162 c1_i32_104
  let v165 : BitVec 32 := Scalar.addi c0_i32_105 v164
  v165.toNat
def k0_dev18 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_109 : BitVec 32 := 3#32
  let v173 : BitVec 32 := Scalar.addi v2 c3_i32_109
  let c16_i32_110 : BitVec 32 := 16#32
  let v174 : BitVec 32 := Scalar.remsi v173 c16_i32_110
  let c1_i32_112 : BitVec 32 := 1#32
  let v176 : BitVec 32 := Scalar.muli v174 c1_i32_112
  let v177 : BitVec 32 := Scalar.addi c0_i32_113 v176
  v177.toNat
def k0_dev19 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_117 : BitVec 32 := 4#32
  let v185 : BitVec 32 := Scalar.addi v2 c4_i32_117
  let c16_i32_118 : BitVec 32 := 16#32
  let v186 : BitVec 32 := Scalar.remsi v185 c16_i32_118
  let c1_i32_120 : BitVec 32 := 1#32
  let v188 : BitVec 32 := Scalar.muli v186 c1_i32_120
  let v189 : BitVec 32 := Scalar.addi c0_i32_121 v188
  v189.toNat
def k0_dev20 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_125 : BitVec 32 := 5#32
  let v197 : BitVec 32 := Scalar.addi v2 c5_i32_125
  let c16_i32_126 : BitVec 32 := 16#32
  let v198 : BitVec 32 := Scalar.remsi v197 c16_i32_126
  let c1_i32_128 : BitVec 32 := 1#32
  let v200 : BitVec 32 := Scalar.muli v198 c1_i32_128
  let v201 : BitVec 32 := Scalar.addi c0_i32_129 v200
  v201.toNat
def k0_dev21 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_133 : BitVec 32 := 6#32
  let v209 : BitVec 32 := Scalar.addi v2 c6_i32_133
  let c16_i32_134 : BitVec 32 := 16#32
  let v210 : BitVec 32 := Scalar.remsi v209 c16_i32_134
  let c1_i32_136 : BitVec 32 := 1#32
  let v212 : BitVec 32 := Scalar.muli v210 c1_i32_136
  let v213 : BitVec 32 := Scalar.addi c0_i32_137 v212
  v213.toNat
def k0_dev22 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_141 : BitVec 32 := 7#32
  let v221 : BitVec 32 := Scalar.addi v2 c7_i32_141
  let c16_i32_142 : BitVec 32 := 16#32
  let v222 : BitVec 32 := Scalar.remsi v221 c16_i32_142
  let c1_i32_144 : BitVec 32 := 1#32
  let v224 : BitVec 32 := Scalar.muli v222 c1_i32_144
  let v225 : BitVec 32 := Scalar.addi c0_i32_145 v224
  v225.toNat
def k0_dev23 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v233 : BitVec 32 := Scalar.addi v2 c8_i32_149
  let c16_i32_150 : BitVec 32 := 16#32
  let v234 : BitVec 32 := Scalar.remsi v233 c16_i32_150
  let c1_i32_152 : BitVec 32 := 1#32
  let v236 : BitVec 32 := Scalar.muli v234 c1_i32_152
  let v237 : BitVec 32 := Scalar.addi c0_i32_153 v236
  v237.toNat
def k0_dev24 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_157 : BitVec 32 := 9#32
  let v245 : BitVec 32 := Scalar.addi v2 c9_i32_157
  let c16_i32_158 : BitVec 32 := 16#32
  let v246 : BitVec 32 := Scalar.remsi v245 c16_i32_158
  let c1_i32_160 : BitVec 32 := 1#32
  let v248 : BitVec 32 := Scalar.muli v246 c1_i32_160
  let v249 : BitVec 32 := Scalar.addi c0_i32_161 v248
  v249.toNat
def k0_dev25 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_165 : BitVec 32 := 10#32
  let v257 : BitVec 32 := Scalar.addi v2 c10_i32_165
  let c16_i32_166 : BitVec 32 := 16#32
  let v258 : BitVec 32 := Scalar.remsi v257 c16_i32_166
  let c1_i32_168 : BitVec 32 := 1#32
  let v260 : BitVec 32 := Scalar.muli v258 c1_i32_168
  let v261 : BitVec 32 := Scalar.addi c0_i32_169 v260
  v261.toNat
def k0_dev26 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_173 : BitVec 32 := 11#32
  let v269 : BitVec 32 := Scalar.addi v2 c11_i32_173
  let c16_i32_174 : BitVec 32 := 16#32
  let v270 : BitVec 32 := Scalar.remsi v269 c16_i32_174
  let c1_i32_176 : BitVec 32 := 1#32
  let v272 : BitVec 32 := Scalar.muli v270 c1_i32_176
  let v273 : BitVec 32 := Scalar.addi c0_i32_177 v272
  v273.toNat
def k0_dev27 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_181 : BitVec 32 := 12#32
  let v281 : BitVec 32 := Scalar.addi v2 c12_i32_181
  let c16_i32_182 : BitVec 32 := 16#32
  let v282 : BitVec 32 := Scalar.remsi v281 c16_i32_182
  let c1_i32_184 : BitVec 32 := 1#32
  let v284 : BitVec 32 := Scalar.muli v282 c1_i32_184
  let v285 : BitVec 32 := Scalar.addi c0_i32_185 v284
  v285.toNat
def k0_dev28 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_189 : BitVec 32 := 13#32
  let v293 : BitVec 32 := Scalar.addi v2 c13_i32_189
  let c16_i32_190 : BitVec 32 := 16#32
  let v294 : BitVec 32 := Scalar.remsi v293 c16_i32_190
  let c1_i32_192 : BitVec 32 := 1#32
  let v296 : BitVec 32 := Scalar.muli v294 c1_i32_192
  let v297 : BitVec 32 := Scalar.addi c0_i32_193 v296
  v297.toNat
def k0_dev29 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_197 : BitVec 32 := 14#32
  let v305 : BitVec 32 := Scalar.addi v2 c14_i32_197
  let c16_i32_198 : BitVec 32 := 16#32
  let v306 : BitVec 32 := Scalar.remsi v305 c16_i32_198
  let c1_i32_200 : BitVec 32 := 1#32
  let v308 : BitVec 32 := Scalar.muli v306 c1_i32_200
  let v309 : BitVec 32 := Scalar.addi c0_i32_201 v308
  v309.toNat
def k0_dev30 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_205 : BitVec 32 := 15#32
  let v317 : BitVec 32 := Scalar.addi v2 c15_i32_205
  let c16_i32_206 : BitVec 32 := 16#32
  let v318 : BitVec 32 := Scalar.remsi v317 c16_i32_206
  let c1_i32_208 : BitVec 32 := 1#32
  let v320 : BitVec 32 := Scalar.muli v318 c1_i32_208
  let v321 : BitVec 32 := Scalar.addi c0_i32_209 v320
  v321.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_213 : BitVec 32 := 32#32
  let v329 : BitVec 32 := Scalar.muli v2 c32_i32_213
  let v330 : Index := Scalar.indexCast v329
  let c0_214 : Index := 0#32
  ![v330.toNat, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v332 : Index := Scalar.indexCast v2
  let c0_215 : Index := 0#32
  let c0_216 : Index := 0#32
  ![v332.toNat, 0, 0]
def k0_off7 (d0 : Dev nD) (c1_i32_217 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v336 : BitVec 32 := Scalar.subi v2 c1_i32_217
  let c16_i32_218 : BitVec 32 := 16#32
  let v337 : BitVec 32 := Scalar.addi v336 c16_i32_218
  let c16_i32_219 : BitVec 32 := 16#32
  let v338 : BitVec 32 := Scalar.remsi v337 c16_i32_219
  ![v338.toNat]
def k0_off8 (d0 : Dev nD) (c1_i32_217 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v336 : BitVec 32 := Scalar.subi v2 c1_i32_217
  let c16_i32_218 : BitVec 32 := 16#32
  let v337 : BitVec 32 := Scalar.addi v336 c16_i32_218
  let c16_i32_219 : BitVec 32 := 16#32
  let v338 : BitVec 32 := Scalar.remsi v337 c16_i32_219
  let c0_i32_223 : BitVec 32 := 0#32
  let c0_i32_224 : BitVec 32 := 0#32
  ![v338.toNat, 0, 0]
def k0_dev31 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_375 : BitVec 32 := 1#32
  let v498 : BitVec 32 := Scalar.addi v2 c1_i32_375
  let c16_i32_376 : BitVec 32 := 16#32
  let v499 : BitVec 32 := Scalar.remsi v498 c16_i32_376
  let c1_i32_377 : BitVec 32 := 1#32
  let v500 : BitVec 32 := Scalar.muli v499 c1_i32_377
  let v501 : BitVec 32 := Scalar.addi c0_i32_378 v500
  v501.toNat
def k0_dev32 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_381 : BitVec 32 := 2#32
  let v508 : BitVec 32 := Scalar.addi v2 c2_i32_381
  let c16_i32_382 : BitVec 32 := 16#32
  let v509 : BitVec 32 := Scalar.remsi v508 c16_i32_382
  let c1_i32_383 : BitVec 32 := 1#32
  let v510 : BitVec 32 := Scalar.muli v509 c1_i32_383
  let v511 : BitVec 32 := Scalar.addi c0_i32_384 v510
  v511.toNat
def k0_dev33 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_387 : BitVec 32 := 3#32
  let v518 : BitVec 32 := Scalar.addi v2 c3_i32_387
  let c16_i32_388 : BitVec 32 := 16#32
  let v519 : BitVec 32 := Scalar.remsi v518 c16_i32_388
  let c1_i32_389 : BitVec 32 := 1#32
  let v520 : BitVec 32 := Scalar.muli v519 c1_i32_389
  let v521 : BitVec 32 := Scalar.addi c0_i32_390 v520
  v521.toNat
def k0_dev34 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_393 : BitVec 32 := 4#32
  let v528 : BitVec 32 := Scalar.addi v2 c4_i32_393
  let c16_i32_394 : BitVec 32 := 16#32
  let v529 : BitVec 32 := Scalar.remsi v528 c16_i32_394
  let c1_i32_395 : BitVec 32 := 1#32
  let v530 : BitVec 32 := Scalar.muli v529 c1_i32_395
  let v531 : BitVec 32 := Scalar.addi c0_i32_396 v530
  v531.toNat
def k0_dev35 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_399 : BitVec 32 := 5#32
  let v538 : BitVec 32 := Scalar.addi v2 c5_i32_399
  let c16_i32_400 : BitVec 32 := 16#32
  let v539 : BitVec 32 := Scalar.remsi v538 c16_i32_400
  let c1_i32_401 : BitVec 32 := 1#32
  let v540 : BitVec 32 := Scalar.muli v539 c1_i32_401
  let v541 : BitVec 32 := Scalar.addi c0_i32_402 v540
  v541.toNat
def k0_dev36 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_405 : BitVec 32 := 6#32
  let v548 : BitVec 32 := Scalar.addi v2 c6_i32_405
  let c16_i32_406 : BitVec 32 := 16#32
  let v549 : BitVec 32 := Scalar.remsi v548 c16_i32_406
  let c1_i32_407 : BitVec 32 := 1#32
  let v550 : BitVec 32 := Scalar.muli v549 c1_i32_407
  let v551 : BitVec 32 := Scalar.addi c0_i32_408 v550
  v551.toNat
def k0_dev37 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_411 : BitVec 32 := 7#32
  let v558 : BitVec 32 := Scalar.addi v2 c7_i32_411
  let c16_i32_412 : BitVec 32 := 16#32
  let v559 : BitVec 32 := Scalar.remsi v558 c16_i32_412
  let c1_i32_413 : BitVec 32 := 1#32
  let v560 : BitVec 32 := Scalar.muli v559 c1_i32_413
  let v561 : BitVec 32 := Scalar.addi c0_i32_414 v560
  v561.toNat
def k0_dev38 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_417 : BitVec 32 := 8#32
  let v568 : BitVec 32 := Scalar.addi v2 c8_i32_417
  let c16_i32_418 : BitVec 32 := 16#32
  let v569 : BitVec 32 := Scalar.remsi v568 c16_i32_418
  let c1_i32_419 : BitVec 32 := 1#32
  let v570 : BitVec 32 := Scalar.muli v569 c1_i32_419
  let v571 : BitVec 32 := Scalar.addi c0_i32_420 v570
  v571.toNat
def k0_dev39 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_423 : BitVec 32 := 9#32
  let v578 : BitVec 32 := Scalar.addi v2 c9_i32_423
  let c16_i32_424 : BitVec 32 := 16#32
  let v579 : BitVec 32 := Scalar.remsi v578 c16_i32_424
  let c1_i32_425 : BitVec 32 := 1#32
  let v580 : BitVec 32 := Scalar.muli v579 c1_i32_425
  let v581 : BitVec 32 := Scalar.addi c0_i32_426 v580
  v581.toNat
def k0_dev40 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_429 : BitVec 32 := 10#32
  let v588 : BitVec 32 := Scalar.addi v2 c10_i32_429
  let c16_i32_430 : BitVec 32 := 16#32
  let v589 : BitVec 32 := Scalar.remsi v588 c16_i32_430
  let c1_i32_431 : BitVec 32 := 1#32
  let v590 : BitVec 32 := Scalar.muli v589 c1_i32_431
  let v591 : BitVec 32 := Scalar.addi c0_i32_432 v590
  v591.toNat
def k0_dev41 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_435 : BitVec 32 := 11#32
  let v598 : BitVec 32 := Scalar.addi v2 c11_i32_435
  let c16_i32_436 : BitVec 32 := 16#32
  let v599 : BitVec 32 := Scalar.remsi v598 c16_i32_436
  let c1_i32_437 : BitVec 32 := 1#32
  let v600 : BitVec 32 := Scalar.muli v599 c1_i32_437
  let v601 : BitVec 32 := Scalar.addi c0_i32_438 v600
  v601.toNat
def k0_dev42 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_441 : BitVec 32 := 12#32
  let v608 : BitVec 32 := Scalar.addi v2 c12_i32_441
  let c16_i32_442 : BitVec 32 := 16#32
  let v609 : BitVec 32 := Scalar.remsi v608 c16_i32_442
  let c1_i32_443 : BitVec 32 := 1#32
  let v610 : BitVec 32 := Scalar.muli v609 c1_i32_443
  let v611 : BitVec 32 := Scalar.addi c0_i32_444 v610
  v611.toNat
def k0_dev43 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_447 : BitVec 32 := 13#32
  let v618 : BitVec 32 := Scalar.addi v2 c13_i32_447
  let c16_i32_448 : BitVec 32 := 16#32
  let v619 : BitVec 32 := Scalar.remsi v618 c16_i32_448
  let c1_i32_449 : BitVec 32 := 1#32
  let v620 : BitVec 32 := Scalar.muli v619 c1_i32_449
  let v621 : BitVec 32 := Scalar.addi c0_i32_450 v620
  v621.toNat
def k0_dev44 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_453 : BitVec 32 := 14#32
  let v628 : BitVec 32 := Scalar.addi v2 c14_i32_453
  let c16_i32_454 : BitVec 32 := 16#32
  let v629 : BitVec 32 := Scalar.remsi v628 c16_i32_454
  let c1_i32_455 : BitVec 32 := 1#32
  let v630 : BitVec 32 := Scalar.muli v629 c1_i32_455
  let v631 : BitVec 32 := Scalar.addi c0_i32_456 v630
  v631.toNat
def k0_dev45 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_459 : BitVec 32 := 15#32
  let v638 : BitVec 32 := Scalar.addi v2 c15_i32_459
  let c16_i32_460 : BitVec 32 := 16#32
  let v639 : BitVec 32 := Scalar.remsi v638 c16_i32_460
  let c1_i32_461 : BitVec 32 := 1#32
  let v640 : BitVec 32 := Scalar.muli v639 c1_i32_461
  let v641 : BitVec 32 := Scalar.addi c0_i32_462 v640
  v641.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S512x32 : Shape := ⟨2, ![512, 32]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 87
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x2, .i32⟩
  | .hbm, ⟨3, _⟩ => ⟨S32x256x512, .f32⟩
  | .hbm, ⟨4, _⟩ => ⟨S512x32, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x32, .f32⟩
  | .hbm, ⟨9, _⟩ => ⟨S512x32, .f32⟩
  | .hbm, ⟨10, _⟩ => ⟨S512x32, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x32, .f32⟩
  | .hbm, ⟨15, _⟩ => ⟨S512x32, .f32⟩
  | .hbm, ⟨16, _⟩ => ⟨S512x1, .i32⟩
  | .hbm, ⟨17, _⟩ => ⟨S512, .i32⟩
  | .hbm, ⟨18, _⟩ => ⟨S512x1, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x1, .i32⟩
  | .hbm, ⟨37, _⟩ => ⟨S512x2, .i32⟩
  | .hbm, ⟨38, _⟩ => ⟨S512, .f32⟩
  | .hbm, ⟨39, _⟩ => ⟨S512x1, .f32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S_, .i32⟩
  | .hbm, ⟨48, _⟩ => ⟨S512, .i32⟩
  | .hbm, ⟨49, _⟩ => ⟨S512, .i1⟩
  | .hbm, ⟨50, _⟩ => ⟨S_, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S512x1, .i32⟩
  | .hbm, ⟨55, _⟩ => ⟨S512x1, .i32⟩
  | .hbm, ⟨56, _⟩ => ⟨S512x2, .i32⟩
  | .hbm, ⟨57, _⟩ => ⟨S512, .f32⟩
  | .hbm, ⟨58, _⟩ => ⟨S512x1, .f32⟩
  | .hbm, ⟨59, _⟩ => ⟨S512x1, .f32⟩
  | .hbm, ⟨60, _⟩ => ⟨S_, .i32⟩
  | .hbm, ⟨61, _⟩ => ⟨S512, .i32⟩
  | .hbm, ⟨62, _⟩ => ⟨S512, .i1⟩
  | .hbm, ⟨63, _⟩ => ⟨S_, .i32⟩
  | .hbm, ⟨64, _⟩ => ⟨S512, .i32⟩
  | .hbm, ⟨65, _⟩ => ⟨S512, .i32⟩
  | .hbm, ⟨66, _⟩ => ⟨S512, .i32⟩
  | .hbm, ⟨67, _⟩ => ⟨S512x1, .i32⟩
  | .hbm, ⟨68, _⟩ => ⟨S512x256x512, .f32⟩
  | .hbm, ⟨69, _⟩ => ⟨S512x512, .f32⟩
  | .hbm, ⟨70, _⟩ => ⟨S_, .i32⟩
  | .hbm, ⟨71, _⟩ => ⟨S512, .i32⟩
  | .hbm, ⟨72, _⟩ => ⟨S512, .i1⟩
  | .hbm, ⟨73, _⟩ => ⟨S_, .i32⟩
  | .hbm, ⟨74, _⟩ => ⟨S512, .i32⟩
  | .hbm, ⟨75, _⟩ => ⟨S512, .i32⟩
  | .hbm, ⟨76, _⟩ => ⟨S512, .i32⟩
  | .hbm, ⟨77, _⟩ => ⟨S512x1, .i32⟩
  | .hbm, ⟨78, _⟩ => ⟨S512x256x512, .f32⟩
  | .hbm, ⟨79, _⟩ => ⟨S512x512, .f32⟩
  | .hbm, ⟨80, _⟩ => ⟨S512x1, .f32⟩
  | .hbm, ⟨81, _⟩ => ⟨S512x512, .f32⟩
  | .hbm, ⟨82, _⟩ => ⟨S512x512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.SchedKernelIdeal.lean ====
/-
# The exchange's protocol: semaphores, contents, schedule

The kernel runs on sixteen devices. Every device computes its own share of the result (the two experts it
holds, all 512 tokens), then

1. signals the barrier semaphore of the fifteen others and waits for their fifteen signals;
2. copies rows `32 t .. 32 t + 31` of its share into slot `c` of device `t`'s scatter buffer, for each `t ≠ c`
   (`send1[t]`, `recv1@t[c]`), writes its own rows into its own slot, and waits for fifteen landings;
3. adds the sixteen slots up, and copies the sum into slot `c` of every other device's gather buffer
   (`send2[t]`, `recv2@t[c]`), writes its own slot, and waits for fifteen landings;
4. reads the gather buffer as the result and waits for its thirty sends.

A barrier signal from `t` to `c` hands `c` slot `c` of `t`'s two buffers, which is what `c`'s two copies to `t` need.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.ValueLayout
public import Idealize.ShloMosaic.Lib.Transfers
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

/-! ## The resource algebra: the pipeline library's copy and the exchange's (duties named by fifteen numbers) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The other devices, in the order the kernel visits them -/

/-- The device `r + 1` places after `c`. -/
def peer (c : Dev nD) (r : Fin 15) : Dev nD := ⟨(c.val + r.val + 1) % 16, Nat.mod_lt _ (by decide)⟩
/-- The device `r + 1` places before `c`. -/
def orig (c : Dev nD) (r : Fin 15) : Dev nD := ⟨(c.val + 15 - r.val) % 16, Nat.mod_lt _ (by decide)⟩
/-- The round trip's number: `r' + 1 = 16 - (r + 1)`. -/
def opp (r : Fin 15) : Fin 15 := ⟨14 - r.val, by omega⟩

theorem opp_opp (r : Fin 15) : opp (opp r) = r := by revert r; decide
theorem orig_peer (c : Dev nD) (r : Fin 15) : orig (peer c r) r = c := by revert c r; decide
theorem peer_orig (c : Dev nD) (r : Fin 15) : peer (orig c r) r = c := by revert c r; decide
theorem peer_peer_opp (c : Dev nD) (r : Fin 15) : peer (peer c r) (opp r) = c := by revert c r; decide
theorem orig_eq (c : Dev nD) (r : Fin 15) : orig c r = peer c (opp r) := by revert c r; decide
theorem peer_ne (c : Dev nD) (r : Fin 15) : peer c r ≠ c := by revert c r; decide
theorem ne_peer (c : Dev nD) (r : Fin 15) : c ≠ peer c r := fun h => peer_ne c r h.symm
theorem orig_ne (c : Dev nD) (r : Fin 15) : orig c r ≠ c := by revert c r; decide
theorem peer_inj {c : Dev nD} {r r' : Fin 15} (h : peer c r = peer c r') : r = r' := by revert c r r'; decide

/-- A device itself, then the others. -/
def others (c : Dev nD) : Unit ⊕ Fin 15 ≃ Fin 16 :=
  Equiv.ofBijective (fun | .inl _ => c | .inr r => peer c r) (by
    constructor
    · rintro (⟨⟩ | r) (⟨⟩ | r') h
      · rfl
      · exact absurd h (ne_peer c r')
      · exact absurd h (peer_ne c r)
      · exact congrArg Sum.inr (peer_inj h)
    · intro d
      have key : ∀ c d : Dev nD, d = c ∨ ∃ r, peer c r = d := by decide
      rcases key c d with h | ⟨r, h⟩
      · exact ⟨.inl (), h.symm⟩
      · exact ⟨.inr r, h⟩)

theorem bigSep_dev {M : Type*} [URA M] (c : Dev nD) (Φ : Fin 16 → sProp M) :
    bigSep Finset.univ Φ = iprop(Φ c ∗ bigSep Finset.univ (fun r => Φ (peer c r))) := by
  rw [bigSep_univ_equiv (others c) Φ, bigSep_univ_sum, bigSep_univ_of_subsingleton ()]
  rfl

/-! ## Memrefs and semaphores -/

abbrev xM : Memref sig .tc .vmem S512x256 .f32 := Memref.whole cc0_stg0_0
abbrev rwM : Memref sig .tc .vmem S256x32 .f32 := Memref.whole cc0_stg1_0
abbrev ixM : Memref sig .tc .vmem S512x2 .i32 := Memref.whole cc0_stg2_0
abbrev wM : Memref sig .tc .vmem S2x256x512 .f32 := Memref.whole cc0_stg3_0
abbrev oM : Memref sig .tc .vmem S512x512 .f32 := Memref.whole cc0_stg4_0
abbrev partM : Memref sig .tc .vmem S512x512 .bf16 := Memref.whole cc0_scratch0
abbrev scatM : Memref sig .tc .vmem S16x32x512 .bf16 := Memref.whole cc0_scratch1
abbrev redM : Memref sig .tc .vmem S32x512 .bf16 := Memref.whole cc0_scratch2
abbrev gathM : Memref sig .tc .vmem S16x32x512 .bf16 := Memref.whole cc0_scratch3

theorem chunk_inb (t : Fin 16) : ∀ a, (![32 * t.val, 0] : Fin 2 → ℕ) a + S32x512.size a ≤ S512x512.size a := by
  revert t; decide
theorem slot_inb (t : Fin 16) : ∀ a, (![t.val, 0, 0] : Fin 3 → ℕ) a + S1x32x512.size a ≤ S16x32x512.size a := by
  revert t; decide

/-- Rows `32 t .. 32 t + 31` of a device's share. -/
abbrev chunkM (t : Fin 16) : Memref sig .tc .vmem S32x512 .bf16 :=
  partM.slice (Rect.unit (s := S512x512) ![32 * t.val, 0] S32x512.size (chunk_inb t)) (fun _ => rfl)
/-- Slot `t` of a buffer of sixteen. -/
abbrev slotM (b : Memref sig .tc .vmem S16x32x512 .bf16) (t : Fin 16) : Memref sig .tc .vmem S32x512 .bf16 :=
  (b.slice (Rect.unit (s := S16x32x512) ![t.val, 0, 0] S1x32x512.size (slot_inb t)) (fun _ => rfl)).squeeze S32x512 squeezes_S1x32x512_S32x512

/-- The runtime's barrier semaphore. -/
abbrev barS : Sem sig := (SemArray.scalar (sig.barrier 0 rfl) : Sems sig S_).sem
/-- Semaphore `i` of the `k`-th of the four arrays of sixteen. -/
def semAt (k : Fin 4) (i : Fin 16) : DmaSem sig := ⟨5 + 16 * k.val + i.val, by have := k.isLt; have := i.isLt; show _ < 69; omega⟩

abbrev barCell (c : Dev nD) : GSem nD τ sig := ((c : Thread nD τ), .reg barS)
abbrev xferCell (c : Dev nD) (k : Fin 4) (i : Fin 16) : GSem nD τ sig := ((c : Thread nD τ), .dma (semAt k i))

/-- Which array a DMA semaphore is of, and which place in it. -/
def arrOf (q : DmaSem sig) : ℕ := (q.val - 5) / 16
def posOf (q : DmaSem sig) : Fin 16 := ⟨(q.val - 5) % 16, Nat.mod_lt _ (by decide)⟩
theorem arrOf_semAt (k : Fin 4) (i : Fin 16) : arrOf (semAt k i) = k.val := by revert k i; decide
theorem posOf_semAt (k : Fin 4) (i : Fin 16) : posOf (semAt k i) = i := by revert k i; decide
theorem five_le_semAt (k : Fin 4) (i : Fin 16) : 5 ≤ (semAt k i).val := by show 5 ≤ 5 + 16 * k.val + i.val; omega
theorem semAt_inj {k k' : Fin 4} {i i' : Fin 16} (h : semAt k i = semAt k' i') : k = k' ∧ i = i' :=
  ⟨Fin.ext (by rw [← arrOf_semAt k i, ← arrOf_semAt k' i', h]), by rw [← posOf_semAt k i, ← posOf_semAt k' i', h]⟩

/-- A transfer's credit: that of a 32 × 512 block of bf16. -/
abbrev N : ℕ := (slotM scatM 0).view.dmaCredit
theorem N_pos : 0 < N := View.dmaCredit_pos _ (by decide)
theorem credit_scat (t : Fin 16) : (slotM scatM t).view.dmaCredit = N := rfl
theorem credit_gath (t : Fin 16) : (slotM gathM t).view.dmaCredit = N := rfl
theorem credit_chunk (t : Fin 16) : (chunkM t).view.dmaCredit = N := rfl
theorem credit_red : redM.view.dmaCredit = N := rfl

/-! ## Contents -/

def xstg0 (c : Dev nD) : (cc0_stg0_0 : Ref sig .tc).ty.Contents (Elt F) := (win0_0.blk (0 : Fin 1)).view.read (Elt F) (m ((c : Thread nD τ).loc main_arg0))
def xstg1 (c : Dev nD) : (cc0_stg1_0 : Ref sig .tc).ty.Contents (Elt F) := (win0_1.blk (0 : Fin 1)).view.read (Elt F) (m ((c : Thread nD τ).loc main_arg1))
def xstg2 (c : Dev nD) : (cc0_stg2_0 : Ref sig .tc).ty.Contents (Elt F) := (win0_2.blk (0 : Fin 1)).view.read (Elt F) (m ((c : Thread nD τ).loc main_arg2))
def xstg3 (c : Dev nD) : (cc0_stg3_0 : Ref sig .tc).ty.Contents (Elt F) := (win0_3.blk (0 : Fin 1)).view.read (Elt F) (m ((c : Thread nD τ).loc main_arg3))

/-- What the kernel's loads of its staged arguments read. -/
def ldX (c : Dev nD) : Vec F S512x256 .f32 :=
  xM.view.readAt (Elt F) (Rect.unit (s := S512x256) ![0, 0] S512x256.size inb_S512x256_S512x256_0_0).toLoadRect (xstg0 m c)
def ldR (c : Dev nD) : Vec F S256x32 .f32 :=
  rwM.view.readAt (Elt F) (Rect.unit (s := S256x32) ![0, 0] S256x32.size inb_S256x32_S256x32_0_0).toLoadRect (xstg1 m c)
def ldI0 (c : Dev nD) : Vec F S512x1 .i32 :=
  ixM.view.readAt (Elt F) (Rect.unit (s := S512x2) ![0, 0] S512x1.size inb_S512x2_S512x1_0_0).toLoadRect (xstg2 m c)
def ldI1 (c : Dev nD) : Vec F S512x1 .i32 :=
  ixM.view.readAt (Elt F) (Rect.unit (s := S512x2) ![0, 1] S512x1.size inb_S512x2_S512x1_0_1).toLoadRect (xstg2 m c)
def ldW0 (c : Dev nD) : Vec F S1x256x512 .f32 :=
  wM.view.readAt (Elt F) (Rect.unit (s := S2x256x512) ![0, 0, 0] S1x256x512.size inb_S2x256x512_S1x256x512_0_0_0).toLoadRect (xstg3 m c)
def ldW1 (c : Dev nD) : Vec F S1x256x512 .f32 :=
  wM.view.readAt (Elt F) (Rect.unit (s := S2x256x512) ![1, 0, 0] S1x256x512.size inb_S2x256x512_S1x256x512_1_0_0).toLoadRect (xstg3 m c)

/-- The device's place as the kernel computes it. -/
abbrev place (c : Dev nD) : BitVec 32 := Scalar.remsi (Scalar.divsi (Dev.word c) 1#32) 16#32

/-- Device `c`'s share: its two experts' weighted products, for all the tokens. -/
def partC (c : Dev nD) : Vec F S512x512 .bf16 :=
  k0_pay7 (place c) (k0_pay1 (ldX m c)) (k0_pay2 (ldX m c) (ldR m c)) (k0_pay3 (ldI0 m c)) (k0_pay4 (ldI1 m c))
    (iota .tc S512x32 32 [1] iota_S512x32_d1_w32) (k0_pay5 (k0_pay2 (ldX m c) (ldR m c)) (ldI0 m c) (ldI1 m c))
    (k0_pay6 (place c) (k0_pay1 (ldX m c)) (k0_pay2 (ldX m c) (ldR m c)) (ldI0 m c) (ldI1 m c) (ldW0 m c)) 2#32 (ldW1 m c)

/-- Row `a` of chunk `t`. -/
def rowOf (t : Fin 16) (a : Fin 32) : Fin 512 := ⟨32 * t.val + a.val, by have := t.isLt; have := a.isLt; omega⟩

/-- Device `c`'s scatter buffer once every slot has landed: slot `s` holds rows `32 c ..` of device `s`'s share. -/
def scatC (c : Dev nD) : Vec F S16x32x512 .bf16 := fun i => partC m (i 0) (ix2 (rowOf c (i 1)) (i 2))
/-- The sum of the slots, rounded. -/
def redC (c : Dev nD) : Vec F S32x512 .bf16 := k0_pay10 (scatC m c)
/-- The gather buffer, the same on every device: slot `s` holds device `s`'s sum. -/
def gathC : Vec F S16x32x512 .bf16 := fun i => redC m (i 0) (ix2 (i 1) (i 2))
/-- The kernel's result, the same on every device. -/
def outC : Vec F S512x512 .f32 := k0_pay12 (gathC m)

/-! ## Points-to of a memref's own elements -/

def pts (c : Dev nD) {s : Shape} {e : EltTy} (v : Memref sig .tc .vmem s e) (q : PosShare TreeShare) (f : Buf (Elt F) (v.view.loc (c : Thread nD τ))) : sProp 𝕄 :=
  v.view.loc (c : Thread nD τ) ↦[v.view.set]{q} f

omit [FloatOps F] in
instance pts_storable (c : Dev nD) {s : Shape} {e : EltTy} (v : Memref sig .tc .vmem s e) (q f) :
    BI.Storable (upEmb : UEmb _ 𝕄) (pts (F := F) c v q f) := by unfold pts; infer_instance

/-! ## The schedule -/

/-- What `peer c d`'s signal hands `c`: slot `c` of its scatter and gather buffers. -/
def barPay (c : Dev nD) (d : Fin 15) : sProp 𝕄 :=
  iprop((∃ f, pts (peer c d) (slotM scatM c) fullShare f) ∗ (∃ f, pts (peer c d) (slotM gathM c) fullShare f))

/-- What a transfer's completion hands the device that waits for it: its source back, or the landed slot. -/
def xferPay (c : Dev nD) (k : ℕ) (i : Fin 16) : sProp 𝕄 :=
  if k = 0 then pts c (chunkM i) fullShare (partC m c)
  else if k = 1 then pts c (slotM scatM i) fullShare (scatC m c)
  else if k = 2 then pts c redM (Transfers.shareTok fullShare 16 i) (redC m c)
  else pts c (slotM gathM i) fullShare (gathC m)

/-- One round: a barrier cell has fifteen duties of one unit; a transfer's cell one duty of the block's credit, except
    the cell that would be a device's transfer to itself, which has none. -/
def rd : Rounds.Schedule (GSem nD τ sig) (Fin 15) 𝕄 where
  duties g r := if r = 0 ∧ g.1.2 = .tc then
      match g.2 with
      | .reg s => if s = barS then Finset.univ else ∅
      | .dma q => if 5 ≤ q.val ∧ posOf q ≠ g.1.1 then {0} else ∅
    else ∅
  unitless _ := False
  amount g _ _ := match g.2 with
    | .reg _ => 1
    | .dma _ => N
  payload g _ d := match g.2 with
    | .reg _ => barPay g.1.1 d
    | .dma q => xferPay m g.1.1 (arrOf q) (posOf q)
  amount_pos g _ _ _ := by
    rcases g with ⟨t, s | q⟩
    · exact Nat.one_pos
    · exact N_pos

instance rd_payload_storable (g : GSem nD τ sig) (r : ℕ) (d : Fin 15) :
    BI.Storable (upEmb : UEmb _ 𝕄) ((rd (F := F) m).payload g r d) := by
  rcases g with ⟨t, s | q⟩
  · show BI.Storable upEmb (barPay t.1 d)
    unfold barPay; infer_instance
  · show BI.Storable upEmb (xferPay m t.1 (arrOf q) (posOf q))
    unfold xferPay
    (repeat' split) <;> infer_instance

section Sched
variable (c : Dev nD)

theorem duties_bar : (rd (F := F) m).duties (barCell c) 0 = Finset.univ := by
  dsimp only [rd]; rw [if_pos ⟨rfl, rfl⟩]; exact if_pos rfl
theorem duties_xfer (k : Fin 4) {i : Fin 16} (h : i ≠ c) : (rd (F := F) m).duties (xferCell c k i) 0 = {0} := by
  dsimp only [rd]; rw [if_pos ⟨rfl, rfl⟩]; exact if_pos ⟨five_le_semAt k i, by rw [posOf_semAt]; exact h⟩
theorem duties_self (k : Fin 4) (r : ℕ) : (rd (F := F) m).duties (xferCell c k c) r = ∅ := by
  dsimp only [rd]
  split
  · exact if_neg fun h => h.2 (posOf_semAt k c)
  · rfl
theorem duties_later (g : GSem nD τ sig) : ∀ r, 1 ≤ r → (rd (F := F) m).duties g r = ∅ :=
  fun r hr => by dsimp only [rd]; rw [if_neg fun h => by omega]
theorem amount_bar (d : Fin 15) : (rd (F := F) m).amount (barCell c) 0 d = 1 := rfl
theorem amount_xfer (k : Fin 4) (i : Fin 16) (d : Fin 15) : (rd (F := F) m).amount (xferCell c k i) 0 d = N := rfl
theorem payload_bar (d : Fin 15) : (rd (F := F) m).payload (barCell c) 0 d = barPay c d := rfl
theorem payload_xfer (k : Fin 4) (i : Fin 16) (d : Fin 15) : (rd (F := F) m).payload (xferCell c k i) 0 d = xferPay m c k.val i := by
  show xferPay m c (arrOf (semAt k i)) (posOf (semAt k i)) = _
  rw [arrOf_semAt, posOf_semAt]
theorem expect_bar : (rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_xfer (k : Fin 4) {i : Fin 16} (h : i ≠ c) : (rd (F := F) m).expect (xferCell c k i) 0 = N := by
  unfold Schedule.expect Schedule.amountOf; rw [duties_xfer m c k h, Finset.sum_singleton, amount_xfer]
theorem rest_bar : bigSep ((rd (F := F) m).duties (barCell c) 0 \ ∅) (fun d => (rd (F := F) m).payload (barCell c) 0 d)
    = bigSep Finset.univ (fun d => barPay (F := F) c d) := by
  rw [Finset.sdiff_empty, duties_bar]; rfl
theorem rest_xfer (k : Fin 4) {i : Fin 16} (h : i ≠ c) :
    bigSep ((rd (F := F) m).duties (xferCell c k i) 0 \ ∅) (fun d => (rd (F := F) m).payload (xferCell c k i) 0 d) = xferPay m c k.val i := by
  rw [Finset.sdiff_empty, duties_xfer m c k h, bigSep_singleton, payload_xfer]

end Sched

/-! ## Fifteen operations in a row -/

/-- The numbers from `n` on: the operations still to come. -/
def rest (n : ℕ) : Finset (Fin 15) := Finset.univ.filter (fun r => n ≤ r.val)
theorem rest_zero : rest 0 = Finset.univ := by decide
theorem rest_end : rest 15 = ∅ := by decide
theorem rest_pop (r : Fin 15) : rest r.val = insert r (rest (r.val + 1)) := by revert r; decide
theorem not_mem_rest (r : Fin 15) : r ∉ rest (r.val + 1) := by revert r; decide

/-- `B` at the operations done, `A` at those to come. -/
def mix {M : Type*} [URA M] (A B : Fin 15 → sProp M) (n : ℕ) : sProp M :=
  bigSep Finset.univ fun r : Fin 15 => if r.val < n then B r else A r

/-! ## What is owed; the levels -/

/-- What device `c` still owes after `a` signals, `b` copies of the first phase, `e` of the second. -/
def owed3 (c : Dev nD) (a b e : ℕ) : CellTallies nD τ sig Unit :=
  (∑ r ∈ rest a, tallyAt (barCell (peer c r)) () 1) + (∑ r ∈ rest b, tallyAt (xferCell (peer c r) 1 c) () N)
    + (∑ r ∈ rest e, tallyAt (xferCell (peer c r) 3 c) () N)

def L (g : GSem nD τ sig) : Finset Unit := if g.1.2 = .tc then {()} else ∅
/-- Barrier cells at 1, the first phase's landings at 2, the second's at 3, everything else (staging, sends) at 0. -/
def lv (g : GSem nD τ sig) (_ : Unit) : ℕ := match g.2 with
  | .reg _ => 1
  | .dma q => if 5 ≤ q.val then (if arrOf q = 1 then 2 else if arrOf q = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_xfer (c : Dev nD) (k : Fin 4) (i : Fin 16) (u : Unit) : lv (xferCell c k i) u = if k.val = 1 then 2 else if k.val = 3 then 3 else 0 := by
  show (if 5 ≤ (semAt k i).val then (if arrOf (semAt k i) = 1 then 2 else if arrOf (semAt k i) = 3 then 3 else 0) else 0) = _
  rw [if_pos (five_le_semAt k i), arrOf_semAt]

end Cert.KernelIdealProof

end
-- ==== Proof.StepsKernelIdeal.lean ====
/-
# One step of the exchange at a time

For each kind of operation of the exchange (a barrier signal, the barrier wait, a copy to another device, a wait for
a landing or for a sent copy) one lemma that runs the program over it: what the `r`-th operation of its kind takes
and leaves.
-/
module

public import proofs.«01_k».proof.Proof.SchedKernelIdeal
public import Mathlib.Tactic.Abel

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Progress -/

section Mix
variable {M : Type*} [URA M] (A B : Fin 15 → sProp M)

theorem mix_zero : mix A B 0 = bigSep Finset.univ A := by
  unfold mix; exact bigSep_congr fun r _ => if_neg (Nat.not_lt_zero _)
theorem mix_end : mix A B 15 = bigSep Finset.univ B := by
  unfold mix; exact bigSep_congr fun r _ => if_pos r.isLt

/-- The operation `r` with the rest of the operations. -/
theorem mix_at (r : Fin 15) :
    mix A B r.val = iprop(A r ∗ bigSep (Finset.univ.erase r) fun i : Fin 15 => if i.val < r.val then B i else A i) := by
  unfold mix
  rw [bigSep_univ_split r, if_neg (Nat.lt_irrefl _)]
  rfl
theorem mix_next (r : Fin 15) :
    mix A B (r.val + 1) = iprop(B r ∗ bigSep (Finset.univ.erase r) fun i : Fin 15 => if i.val < r.val then B i else A i) := by
  unfold mix
  rw [bigSep_univ_split r, if_pos (Nat.lt_succ_self _), bigSep_congr (Ψ := fun i : Fin 15 => if i.val < r.val then B i else A i)]
  · rfl
  · intro i hi
    have hne : i.val ≠ r.val := fun h => (Finset.mem_erase.mp hi).1 (Fin.ext h)
    by_cases h : i.val < r.val
    · rw [if_pos h, if_pos (Nat.lt_succ_of_lt h)]
    · rw [if_neg h, if_neg (by omega)]

end Mix

/-! ## What is owed -/

theorem owed3_sig (c : Dev nD) (r : Fin 15) (b e : ℕ) :
    owed3 c r.val b e = owed3 c (r.val + 1) b e + tallyAt (barCell (peer c r)) () 1 := by
  unfold owed3; rw [rest_pop r, Finset.sum_insert (not_mem_rest r)]; abel
theorem owed3_send1 (c : Dev nD) (r : Fin 15) (a e : ℕ) :
    owed3 c a r.val e = owed3 c a (r.val + 1) e + tallyAt (xferCell (peer c r) 1 c) () N := by
  unfold owed3; rw [rest_pop r, Finset.sum_insert (not_mem_rest r)]; abel
theorem owed3_send2 (c : Dev nD) (r : Fin 15) (a b : ℕ) :
    owed3 c a b r.val = owed3 c a b (r.val + 1) + tallyAt (xferCell (peer c r) 3 c) () N := by
  unfold owed3; rw [rest_pop r, Finset.sum_insert (not_mem_rest r)]; abel
theorem owed3_end (c : Dev nD) : owed3 c 15 15 15 = 0 := by
  unfold owed3; rw [rest_end]; simp

/-- A device owes to barrier cells while signals are left, to the first phase's landing cells while its copies are
    left, and to the second's. -/
theorem owed3_pos {c : Dev nD} {a b e : ℕ} {g : GSem nD τ sig} {u : Unit} (h : 0 < owed3 c a b e g u) :
    (∃ r ∈ rest a, g = barCell (peer c r)) ∨ (∃ r ∈ rest b, g = xferCell (peer c r) 1 c) ∨ (∃ r ∈ rest e, g = xferCell (peer c r) 3 c) := by
  have key : ∀ (S : Finset (Fin 15)) (f : Fin 15 → GSem nD τ sig) (k : ℕ), 0 < (∑ r ∈ S, tallyAt (f r) () k : CellTallies nD τ sig Unit) g u → ∃ r ∈ S, g = f r := by
    intro S f k
    induction S using Finset.induction_on with
    | empty => intro h; rw [Finset.sum_empty] at h; exact absurd h (Nat.lt_irrefl 0)
    | insert r S hr ih =>
      intro h
      rw [Finset.sum_insert hr, Pi.add_apply, Finsupp.add_apply, tallyAt_apply] at h
      by_cases hg : g = f r
      · exact ⟨r, Finset.mem_insert_self _ _, hg⟩
      · rw [if_neg fun h' => hg h'.1, Nat.zero_add] at h
        obtain ⟨r', h1, h2⟩ := ih h
        exact ⟨r', Finset.mem_insert_of_mem h1, h2⟩
  unfold owed3 at h
  rw [Pi.add_apply, Finsupp.add_apply, Pi.add_apply, Finsupp.add_apply] at h
  by_cases h1 : 0 < (∑ r ∈ rest a, tallyAt (barCell (peer c r)) () 1 : CellTallies nD τ sig Unit) g u
  · exact .inl (key _ _ _ h1)
  by_cases h2 : 0 < (∑ r ∈ rest b, tallyAt (xferCell (peer c r) 1 c) () N : CellTallies nD τ sig Unit) g u
  · exact .inr (.inl (key _ _ _ h2))
  · rw [Nat.eq_zero_of_not_pos h1, Nat.eq_zero_of_not_pos h2, Nat.zero_add] at h
    exact .inr (.inr (key _ _ _ h))

/-- A wait on a cell whose level is below the level of every cell owed to. -/
theorem mayWait_of_lt (c : Dev nD) (sm : SemLoc sig) (a b e : ℕ)
    (ha : rest a = ∅ ∨ lv ((c : Thread nD τ), sm) () < 1) (hb : rest b = ∅ ∨ lv ((c : Thread nD τ), sm) () < 2)
    (he : rest e = ∅ ∨ lv ((c : Thread nD τ), sm) () < 3) :
    (levAts L lv : sProp 𝕄) ⊢ MayWait (c : Thread nD τ) sm () (owed3 c a b e) := by
  refine MayOwe.of_cut (L := L) (lev := lv) (lv ((c : Thread nD τ), sm) ())
    (fun p hp => by rw [Finset.mem_singleton.mp hp, L_tc]; exact Finset.mem_singleton_self _)
    (fun g u hg => ?_) (fun p hp => by rw [Finset.mem_singleton.mp hp]) (fun g u hg => ?_)
  · rcases owed3_pos hg with ⟨r, -, rfl⟩ | ⟨r, -, rfl⟩ | ⟨r, -, rfl⟩ <;> exact Finset.mem_singleton_self _
  · rcases owed3_pos hg with ⟨r, hr, rfl⟩ | ⟨r, hr, rfl⟩ | ⟨r, hr, rfl⟩
    · rcases ha with h | h
      · rw [h] at hr; exact absurd hr (Finset.notMem_empty _)
      · rw [lv_bar]; exact h
    · rcases hb with h | h
      · rw [h] at hr; exact absurd hr (Finset.notMem_empty _)
      · rw [lv_xfer]; exact h
    · rcases he with h | h
      · rw [h] at hr; exact absurd hr (Finset.notMem_empty _)
      · rw [lv_xfer]; exact h

theorem mayWait_bar (c : Dev nD) : (levAts L lv : sProp 𝕄) ⊢ MayWait (c : Thread nD τ) (.reg barS) () (owed3 c 15 0 0) :=
  mayWait_of_lt c _ 15 0 0 (.inl rest_end) (.inr (by rw [lv_bar]; decide)) (.inr (by rw [lv_bar]; decide))
theorem mayWait_recv1 (c : Dev nD) (i : Fin 16) : (levAts L lv : sProp 𝕄) ⊢ MayWait (c : Thread nD τ) (.dma (semAt 1 i)) () (owed3 c 15 15 0) :=
  mayWait_of_lt c _ 15 15 0 (.inl rest_end) (.inl rest_end) (.inr (by rw [lv_xfer]; decide))
theorem mayWait_end (c : Dev nD) (sm : SemLoc sig) : (levAts L lv : sProp 𝕄) ⊢ MayWait (c : Thread nD τ) sm () (owed3 c 15 15 15) :=
  mayWait_of_lt c _ 15 15 15 (.inl rest_end) (.inl rest_end) (.inl rest_end)

/-! ## What every device may use at any time -/

/-- The exchange's cells on a device: its barrier cell, and its sixty-four transfer cells. -/
abbrev Cel : Type := Unit ⊕ (Fin 4 × Fin 16)
abbrev kcell (x : Dev nD × Cel) : GSem nD τ sig := match x.2 with
  | .inl _ => barCell x.1
  | .inr ki => xferCell x.1 ki.1 ki.2

variable (K : Dev nD × Cel → ℕ)

/-- Every cell's invariant, under the names `K`, and that its round has begun. -/
def recs : sProp 𝕄 := bigSep Finset.univ fun x : Dev nD × Cel => iprop(cellInv ER (rd m) (K x) (kcell x) ∗ reached ER (kcell x) 0)
instance recs_persistent : BI.Persistent (recs m K) := by unfold recs; infer_instance

def env : sProp 𝕄 := iprop(recs m K ∗ levAts L lv)
instance env_persistent : BI.Persistent (env m K) := by unfold env; infer_instance

theorem recs_bar (c : Dev nD) : recs m K ⊢ iprop(cellInv ER (rd m) (K (c, .inl ())) (barCell c) ∗ reached ER (barCell c) 0) :=
  bigSep_elim (Finset.mem_univ (c, Sum.inl ()))
theorem recs_xfer (c : Dev nD) (k : Fin 4) (i : Fin 16) :
    recs m K ⊢ iprop(cellInv ER (rd m) (K (c, .inr (k, i))) (xferCell c k i) ∗ reached ER (xferCell c k i) 0) :=
  bigSep_elim (Finset.mem_univ (c, Sum.inr (k, i)))

/-- What is owed, at some waits. -/
def Ow (c : Dev nD) (a b e : ℕ) : sProp 𝕄 := iprop(∃ W, owes (c : Thread nD τ) (owed3 c a b e) W)

/-! ## Where a landed block's elements are -/

theorem chunk_emb (t : Fin 16) (x : S32x512.Idx) : (chunkM t).view.emb x = ix2 (rowOf t (x 0)) (x 1) := by
  funext a
  refine Fin.ext ?_
  fin_cases a
  · show 32 * t.val + 1 * (x 0).val = 32 * t.val + (x 0).val
    omega
  · show 0 + 1 * (x 1).val = (x 1).val
    omega

theorem idx2_eta (x : S32x512.Idx) : x = ix2 (x 0) (x 1) := by
  funext a; fin_cases a <;> rfl

theorem slot_emb (t : Fin 16) (x : S32x512.Idx) :
    (Rect.unit (s := S16x32x512) ![t.val, 0, 0] S1x32x512.size (slot_inb t)).emb (Shape.reshapeEquiv squeezes_S1x32x512_S32x512.numel_eq x)
      = ix3 t (x 0) (x 1) := by
  have h := reshapeEquiv_ix2_1ab squeezes_S1x32x512_S32x512.numel_eq (x 0) (x 1)
  refine (congrArg _ ((congrArg _ (idx2_eta x)).trans h)).trans ?_
  funext a
  refine Fin.ext ?_
  fin_cases a
  · show t.val + 1 * 0 = t.val
    omega
  · show 0 + 1 * (x 0).val = (x 0).val
    omega
  · show 0 + 1 * (x 1).val = (x 1).val
    omega
theorem scat_emb (t : Fin 16) (x : S32x512.Idx) : (slotM scatM t).view.emb x = ix3 t (x 0) (x 1) := slot_emb t x
theorem gath_emb (t : Fin 16) (x : S32x512.Idx) : (slotM gathM t).view.emb x = ix3 t (x 0) (x 1) := slot_emb t x

/-- The first phase's landing: slot `c` of device `p`'s scatter buffer takes `p`'s rows of device `c`'s share. -/
theorem land1 (c p : Dev nD) (fd : Buf (Elt F) ((slotM scatM c).view.loc (p : Thread nD τ))) :
    pts p (slotM scatM c) fullShare ((slotM scatM c).view.write (Elt F) fd ((chunkM p).view.read (Elt F) (partC m c)) Finset.univ)
      = pts p (slotM scatM c) fullShare (scatC m p) := by
  unfold pts
  refine pointsTo_congr fun i hi => ?_
  obtain ⟨x, -, rfl⟩ := Finset.mem_map.mp hi
  rw [View.write_emb_of_mem _ _ (Finset.mem_univ x), View.read_apply, scat_emb, chunk_emb]
  rfl
/-- The second phase's: slot `c` of device `p`'s gather buffer takes device `c`'s sum. -/
theorem land2 (c p : Dev nD) (fd : Buf (Elt F) ((slotM gathM c).view.loc (p : Thread nD τ))) :
    pts p (slotM gathM c) fullShare ((slotM gathM c).view.write (Elt F) fd (redM.view.read (Elt F) (redC m c)) Finset.univ)
      = pts p (slotM gathM c) fullShare (gathC m) := by
  unfold pts
  refine pointsTo_congr fun i hi => ?_
  obtain ⟨x, -, rfl⟩ := Finset.mem_map.mp hi
  rw [View.write_emb_of_mem _ _ (Finset.mem_univ x), View.read_apply, gath_emb]
  show redC m c x = redC m c (ix2 (x 0) (x 1))
  exact congrArg _ (idx2_eta x)

/-! ## The barrier's signals -/

/-- The `r`-th signal takes its duty's token and slot `peer c r` of the two buffers. -/
def sigA (c : Dev nD) (r : Fin 15) : sProp 𝕄 :=
  iprop(dutyTok ER (barCell (peer c r)) 0 (opp r)
    ∗ (∃ f, pts c (slotM scatM (peer c r)) fullShare f) ∗ (∃ f, pts c (slotM gathM (peer c r)) fullShare f))
def sigSt (c : Dev nD) (n : ℕ) : sProp 𝕄 := iprop(mix (sigA (F := F) c) (fun _ => iprop(emp)) n ∗ Ow c n 0 0)

theorem sig_step (c n : Dev nD) (r : Fin 15) (hn : n = peer c r) (kz : ℤ) (hkz : kz = ((1 : ℕ) : ℤ)) {R : sProp 𝕄} {α : Type} {Q : α → sProp 𝕄}
    {k : PUnit → Prog (TpuEff nD τ sig (Elt F) Λ₀ .tc) α}
    (h : iprop(env m K ∗ sigSt c (r.val + 1) ∗ R) ⊢ wp frame (wpE (defs₀ (F := F)) 𝒱₀ (c : Thread nD τ) none) Set.univ (k ⟨⟩) Q) :
    iprop(env m K ∗ sigSt c r.val ∗ R)
      ⊢ wp frame (wpE (defs₀ (F := F)) 𝒱₀ (c : Thread nD τ) none) Set.univ (.op (.semSignal (n : Thread nD τ) barS kz) k) Q := by
  subst hn hkz
  unfold env sigSt Ow at h ⊢
  rw [mix_at]
  rw [mix_next] at h
  iintro ⟨⟨#Hrec, #Hlev⟩, ⟨⟨HA, Hmix⟩, %W, HO⟩, HR⟩
  rw [owed3_sig]
  unfold sigA
  icases HA with ⟨Htok, Hs, Hg⟩
  ihave HI := (recs_bar m K (peer c r)) $$ Hrec
  icases HI with ⟨#HI, #Hr⟩
  iapply (Rounds.wp_signal 𝒱₀ ER (rd m) (c : Thread nD τ) none (dst := (peer c r : Thread nD τ)) (κ := K (peer c r, .inl ()))
      (d := opp r) (by rw [duties_bar]; exact Finset.mem_univ _) (amount_bar m (peer c r) (opp r)) () (owed3 c (r.val + 1) 0 0) rfl)
    $$ [HO Htok Hs Hg]
  · isplitr; · iexact HI
    isplitl [HO]; · iexact HO
    isplitl [Htok]; · iexact Htok
    isplitl [Hs Hg]
    · rw [payload_bar]; unfold barPay; rw [peer_peer_opp]
      isplitl [Hs] <;> iassumption
    · iexact Hr
  iintro HO
  iapply h
  isplitr
  · isplitr <;> iassumption
  isplitl [Hmix HO]
  · isplitl [Hmix]
    · isplitr; · iempintro
      iexact Hmix
    · iexists W; iexact HO
  iexact HR

/-! ## The barrier's wait -/

/-- Before it: the fifteen units' credit and the cell's position. After it: slot `c` of everyone else's two buffers. -/
def barSt₀ (c : Dev nD) : sProp 𝕄 := iprop(cred (tallyAt (barCell c) () 15) ∗ atPos ER (barCell c) 0 ∅ 0 ∗ Ow c 15 0 0)
def barSt₁ (c : Dev nD) : sProp 𝕄 := iprop(bigSep Finset.univ (fun d => barPay (F := F) c d) ∗ semVal (barCell c) 0 ∗ Ow c 15 0 0)

theorem bar_step (c : Dev nD) (kz : ℤ) (hkz : kz = ((15 : ℕ) : ℤ)) {R : sProp 𝕄} {α : Type} {Q : α → sProp 𝕄}
    {k : PUnit → Prog (TpuEff nD τ sig (Elt F) Λ₀ .tc) α}
    (h : iprop(env m K ∗ barSt₁ c ∗ R) ⊢ wp frame (wpE (defs₀ (F := F)) 𝒱₀ (c : Thread nD τ) none) Set.univ (k ⟨⟩) Q) :
    iprop(env m K ∗ barSt₀ c ∗ R)
      ⊢ wp frame (wpE (defs₀ (F := F)) 𝒱₀ (c : Thread nD τ) none) Set.univ (.op (.semWait barS kz) k) Q := by
  subst hkz
  unfold env barSt₁ Ow at h
  unfold env barSt₀ Ow
  iintro ⟨⟨#Hrec, #Hlev⟩, ⟨Hcr, Hat, %W, HO⟩, HR⟩
  ihave HI := (recs_bar m K c) $$ Hrec
  icases HI with ⟨#HI, -⟩
  iapply (Rounds.wp_wait_rest_token 𝒱₀ ER (rd m) (c : Thread nD τ) none (κ := K (c, .inl ()))
      (wpE_semWait_eq 𝒱₀ (c : Thread nD τ) none Set.univ) (Set.mem_univ _) () (O := owed3 c 15 0 0) (W := W) (R := 0) (m := 0) (T := ∅)
      (by rw [expect_bar])) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (rd m) (Set.mem_univ (K (c, .inl ()))) (fun h => h) (R := 0 + 1) (duties_later m (barCell c))) $$ [Hat] with Hz
  · isplitr; · iexact HI
    iexact Hat
  iapply h
  isplitr
  · isplitr <;> iassumption
  isplitl [Hp HO Hz]
  · isplitl [Hp]; · iexact Hp
    isplitl [Hz]; · iexact Hz
    iexists _; iexact HO
  iexact HR

/-! ## The copies -/

/-- The `r`-th copy of the first phase: the two duties' tokens, the rows of the share it reads, the slot it writes. -/
def sendA1 (c : Dev nD) (r : Fin 15) : sProp 𝕄 :=
  iprop(dutyTok ER (xferCell c 0 (peer c r)) 0 0 ∗ dutyTok ER (xferCell (peer c r) 1 c) 0 0
    ∗ pts c (chunkM (peer c r)) fullShare (partC m c) ∗ (∃ f, pts (peer c r) (slotM scatM c) fullShare f))
/-- The `r`-th copy of the second phase. -/
def sendA2 (c : Dev nD) (r : Fin 15) : sProp 𝕄 :=
  iprop(dutyTok ER (xferCell c 2 (peer c r)) 0 0 ∗ dutyTok ER (xferCell (peer c r) 3 c) 0 0
    ∗ pts c redM (Transfers.shareTok fullShare 16 (peer c r)) (redC m c) ∗ (∃ f, pts (peer c r) (slotM gathM c) fullShare f))
/-- What a copy leaves: the credit to wait for it. -/
def sendB (c : Dev nD) (k : Fin 4) (r : Fin 15) : sProp 𝕄 := cred (tallyAt (xferCell c k (peer c r)) () N)

def sendSt1 (c : Dev nD) (n : ℕ) : sProp 𝕄 := iprop(mix (sendA1 m c) (sendB c 0) n ∗ Ow c 15 n 0)
def sendSt2 (c : Dev nD) (n : ℕ) : sProp 𝕄 := iprop(mix (sendA2 m c) (sendB c 2) n ∗ Ow c 15 15 n)

theorem send1_step (c n : Dev nD) (r : Fin 15) (hn : n = peer c r) {src dst : Memref sig .tc .vmem S32x512 .bf16}
    (hs : src = chunkM (peer c r)) (hd : dst = slotM scatM c) {q₁ q₂ : DmaSem sig} (h₁ : q₁ = semAt 0 (peer c r)) (h₂ : q₂ = semAt 1 c)
    {hsc : dst.view.ref.isScScratch = false} {hsrc : src.view.WordExact} {hdst : dst.view.WordExact}
    {hsem : DmaTarget.Typed .vmem (.dma q₂) (.remote (Dev.tc n : Thread nD τ) dst (.dma q₁) hsc)}
    {R : sProp 𝕄} {α : Type} {Q : α → sProp 𝕄} {k : PUnit → Prog (TpuEff nD τ sig (Elt F) Λ₀ .tc) α}
    (h : iprop(env m K ∗ sendSt1 m c (r.val + 1) ∗ R) ⊢ wp frame (wpE (defs₀ (F := F)) 𝒱₀ (c : Thread nD τ) none) Set.univ (k ⟨⟩) Q) :
    iprop(env m K ∗ sendSt1 m c r.val ∗ R)
      ⊢ wp frame (wpE (defs₀ (F := F)) 𝒱₀ (c : Thread nD τ) none) Set.univ
          (.op (.enqueueDma src (.remote (Dev.tc n : Thread nD τ) dst (.dma q₁) hsc) (.dma q₂) hsrc hdst hsem) k) Q := by
  subst hn hs hd h₁ h₂
  unfold env sendSt1 Ow at h ⊢
  rw [mix_at]
  rw [mix_next] at h
  iintro ⟨⟨#Hrec, #Hlev⟩, ⟨⟨HA, Hmix⟩, %W, HO⟩, HR⟩
  rw [owed3_send1]
  unfold sendA1
  icases HA with ⟨Ht₁, Ht₂, Hsrc, %fd, Hdst⟩
  ihave HI := (recs_xfer m K c 0 (peer c r)) $$ Hrec
  icases HI with ⟨#HI₁, #Hr₁⟩
  ihave HI := (recs_xfer m K (peer c r) 1 c) $$ Hrec
  icases HI with ⟨#HI₂, #Hr₂⟩
  iapply (Rounds.wp_send_pointsTo 𝒱₀ ER (rd m) (c : Thread nD τ) none (c' := (peer c r : Thread nD τ)) (κ₁ := K (c, .inr (0, peer c r))) (κ₂ := K (peer c r, .inr (1, c)))
      (src := chunkM (peer c r)) (dst := slotM scatM c) (q := fullShare) (fs := partC m c)
      (r₁ := 0) (r₂ := 0) (d₁ := 0) (d₂ := 0) (fd := fd)
      (by rw [duties_xfer m c 0 (peer_ne c r)]; exact Finset.mem_singleton_self _)
      (by rw [duties_xfer m (peer c r) 1 (ne_peer c r)]; exact Finset.mem_singleton_self _)
      () () N rfl (amount_xfer m c 0 (peer c r) 0) (amount_xfer m (peer c r) 1 c 0) (owed3 c 15 (r.val + 1) 0) rfl (W := W)
      (by rw [payload_xfer]; exact BI.Entails.refl _)
      (by rw [payload_xfer]; exact Entails.of_eq (land1 m c (peer c r) fd)))
    $$ [HO Ht₁ Ht₂ Hsrc Hdst]
  · isplitr; · iexact HI₁
    isplitr; · iexact HI₂
    isplitl [Hsrc]; · unfold pts; iexact Hsrc
    isplitl [Hdst]; · unfold pts; iexact Hdst
    isplitl [HO]; · iexact HO
    isplitl [Ht₁]; · iexact Ht₁
    isplitr; · iexact Hr₁
    isplitl [Ht₂]; · iexact Ht₂
    iexact Hr₂
  iintro ⟨Hc, HO⟩
  iapply h
  isplitr
  · isplitr <;> iassumption
  isplitl [Hc Hmix HO]
  · isplitl [Hc Hmix]
    · isplitl [Hc]; · unfold sendB; iexact Hc
      iexact Hmix
    · iexists W; iexact HO
  iexact HR

theorem send2_step (c n : Dev nD) (r : Fin 15) (hn : n = peer c r) {src dst : Memref sig .tc .vmem S32x512 .bf16}
    (hs : src = redM) (hd : dst = slotM gathM c) {q₁ q₂ : DmaSem sig} (h₁ : q₁ = semAt 2 (peer c r)) (h₂ : q₂ = semAt 3 c)
    {hsc : dst.view.ref.isScScratch = false} {hsrc : src.view.WordExact} {hdst : dst.view.WordExact}
    {hsem : DmaTarget.Typed .vmem (.dma q₂) (.remote (Dev.tc n : Thread nD τ) dst (.dma q₁) hsc)}
    {R : sProp 𝕄} {α : Type} {Q : α → sProp 𝕄} {k : PUnit → Prog (TpuEff nD τ sig (Elt F) Λ₀ .tc) α}
    (h : iprop(env m K ∗ sendSt2 m c (r.val + 1) ∗ R) ⊢ wp frame (wpE (defs₀ (F := F)) 𝒱₀ (c : Thread nD τ) none) Set.univ (k ⟨⟩) Q) :
    iprop(env m K ∗ sendSt2 m c r.val ∗ R)
      ⊢ wp frame (wpE (defs₀ (F := F)) 𝒱₀ (c : Thread nD τ) none) Set.univ
          (.op (.enqueueDma src (.remote (Dev.tc n : Thread nD τ) dst (.dma q₁) hsc) (.dma q₂) hsrc hdst hsem) k) Q := by
  subst hn hs hd h₁ h₂
  unfold env sendSt2 Ow at h ⊢
  rw [mix_at]
  rw [mix_next] at h
  iintro ⟨⟨#Hrec, #Hlev⟩, ⟨⟨HA, Hmix⟩, %W, HO⟩, HR⟩
  rw [owed3_send2]
  unfold sendA2
  icases HA with ⟨Ht₁, Ht₂, Hsrc, %fd, Hdst⟩
  ihave HI := (recs_xfer m K c 2 (peer c r)) $$ Hrec
  icases HI with ⟨#HI₁, #Hr₁⟩
  ihave HI := (recs_xfer m K (peer c r) 3 c) $$ Hrec
  icases HI with ⟨#HI₂, #Hr₂⟩
  iapply (Rounds.wp_send_pointsTo 𝒱₀ ER (rd m) (c : Thread nD τ) none (c' := (peer c r : Thread nD τ)) (κ₁ := K (c, .inr (2, peer c r))) (κ₂ := K (peer c r, .inr (3, c)))
      (src := redM) (dst := slotM gathM c) (q := Transfers.shareTok fullShare 16 (peer c r)) (fs := redC m c)
      (r₁ := 0) (r₂ := 0) (d₁ := 0) (d₂ := 0) (fd := fd)
      (by rw [duties_xfer m c 2 (peer_ne c r)]; exact Finset.mem_singleton_self _)
      (by rw [duties_xfer m (peer c r) 3 (ne_peer c r)]; exact Finset.mem_singleton_self _)
      () () N rfl (amount_xfer m c 2 (peer c r) 0) (amount_xfer m (peer c r) 3 c 0) (owed3 c 15 15 (r.val + 1)) rfl (W := W)
      (by rw [payload_xfer]; exact BI.Entails.refl _)
      (by rw [payload_xfer]; exact Entails.of_eq (land2 m c (peer c r) fd)))
    $$ [HO Ht₁ Ht₂ Hsrc Hdst]
  · isplitr; · iexact HI₁
    isplitr; · iexact HI₂
    isplitl [Hsrc]; · unfold pts; iexact Hsrc
    isplitl [Hdst]; · unfold pts; iexact Hdst
    isplitl [HO]; · iexact HO
    isplitl [Ht₁]; · iexact Ht₁
    isplitr; · iexact Hr₁
    isplitl [Ht₂]; · iexact Ht₂
    iexact Hr₂
  iintro ⟨Hc, HO⟩
  iapply h
  isplitr
  · isplitr <;> iassumption
  isplitl [Hc Hmix HO]
  · isplitl [Hc Hmix]
    · isplitl [Hc]; · unfold sendB; iexact Hc
      iexact Hmix
    · iexists W; iexact HO
  iexact HR

/-! ## The waits for transfers -/

/-- Before the wait on cell `idx r` of array `k`: its credit and its position. -/
def waitA (c : Dev nD) (k : Fin 4) (idx : Fin 15 → Fin 16) (r : Fin 15) : sProp 𝕄 :=
  iprop(cred (tallyAt (xferCell c k (idx r)) () N) ∗ atPos ER (xferCell c k (idx r)) 0 ∅ 0)
/-- After it: what the cell hands over, and its counter at zero. -/
def waitB (c : Dev nD) (k : Fin 4) (idx : Fin 15 → Fin 16) (r : Fin 15) : sProp 𝕄 :=
  iprop(xferPay m c k.val (idx r) ∗ semVal (xferCell c k (idx r)) 0)
def waitSt (c : Dev nD) (k : Fin 4) (idx : Fin 15 → Fin 16) (b e n : ℕ) : sProp 𝕄 :=
  iprop(mix (waitA c k idx) (waitB m c k idx) n ∗ Ow c 15 b e)

theorem wait_step (c : Dev nD) (k : Fin 4) (idx : Fin 15 → Fin 16) (b e : ℕ) (hidx : ∀ r, idx r ≠ c)
    (hmw : ∀ r, (levAts L lv : sProp 𝕄) ⊢ MayWait (c : Thread nD τ) (.dma (semAt k (idx r))) () (owed3 c 15 b e)) (r : Fin 15)
    {sp sp' : Space} {s : Shape} {e' : EltTy} {src : Memref sig .tc sp s e'} {dst : Memref sig .tc sp' s e'} {q : DmaSem sig} (hq : q = semAt k (idx r))
    (hN : dst.view.dmaCredit = N)
    {hsrc : src.view.WordExact} {hdst : dst.view.WordExact}
    {R : sProp 𝕄} {α : Type} {Q : α → sProp 𝕄} {kt : PUnit → Prog (TpuEff nD τ sig (Elt F) Λ₀ .tc) α}
    (h : iprop(env m K ∗ waitSt m c k idx b e (r.val + 1) ∗ R) ⊢ wp frame (wpE (defs₀ (F := F)) 𝒱₀ (c : Thread nD τ) none) Set.univ (kt ⟨⟩) Q) :
    iprop(env m K ∗ waitSt m c k idx b e r.val ∗ R)
      ⊢ wp frame (wpE (defs₀ (F := F)) 𝒱₀ (c : Thread nD τ) none) Set.univ (.op (.waitDma2 q src dst hsrc hdst) kt) Q := by
  subst hq
  unfold env waitSt Ow at h ⊢
  rw [mix_at]
  rw [mix_next] at h
  iintro ⟨⟨#Hrec, #Hlev⟩, ⟨⟨HA, Hmix⟩, %W, HO⟩, HR⟩
  unfold waitA
  icases HA with ⟨Hcr, Hat⟩
  ihave HI := (recs_xfer m K c k (idx r)) $$ Hrec
  icases HI with ⟨#HI, -⟩
  iapply (Rounds.wp_wait_rest_token 𝒱₀ ER (rd m) (c : Thread nD τ) none (κ := K (c, .inr (k, idx r)))
      (wpE_waitDma2_eq 𝒱₀ (c : Thread nD τ) none Set.univ) (Set.mem_univ _) () (O := owed3 c 15 b e) (W := W) (R := 0) (m := 0) (T := ∅)
      (by rw [expect_xfer m c k (hidx r), Nat.zero_add]; exact hN)) $$ [Hcr HO Hat]
  · isplitr; · iexact HI
    isplitl [Hcr]; · rw [hN]; iexact Hcr
    isplitl [HO]; · iexact HO
    isplitr; · iapply (hmw r); iexact Hlev
    iexact Hat
  iintro ⟨HO, Hat, -, Hpay⟩
  ihave Hp := (Entails.of_eq (rest_xfer m c k (hidx r))) $$ Hpay
  imod (Rounds.cell_close ER (rd m) (Set.mem_univ (K (c, .inr (k, idx r)))) (fun h => h) (R := 0 + 1) (duties_later m (xferCell c k (idx r)))) $$ [Hat] with Hz
  · isplitr; · iexact HI
    iexact Hat
  iapply h
  isplitr
  · isplitr <;> iassumption
  isplitl [Hp Hz Hmix HO]
  · isplitl [Hp Hz Hmix]
    · isplitl [Hp Hz]
      · unfold waitB
        isplitl [Hp] <;> iassumption
      · iexact Hmix
    · iexists _; iexact HO
  iexact HR

/-- The counter of a cell that nothing is ever copied onto. -/
theorem self_close (c : Dev nD) (k : Fin 4) :
    iprop(env m K ∗ atPos ER (xferCell c k c) 0 ∅ 0) ⊢ iprop(|={Set.univ}=> semVal (xferCell c k c) 0) := by
  unfold env
  iintro ⟨⟨#Hrec, -⟩, Hat⟩
  ihave HI := (recs_xfer m K c k c) $$ Hrec
  icases HI with ⟨#HI, -⟩
  iapply (Rounds.cell_close ER (rd m) (Set.mem_univ (K (c, .inr (k, c)))) (fun h => h) (R := 0) (fun r _ => duties_self m c k r))
  isplitr; · iexact HI
  iexact Hat

/-! ## The program's semaphores and slices are the protocol's -/

theorem unit_off (i : Fin 16) (h : ∀ a, (![i.val] : Fin 1 → ℕ) a + S1.size a ≤ S16.size a) (x : S1.Idx) :
    (S16.rowMajor ((Rect.unit (s := S16) ![i.val] S1.size h).emb x)).val = i.val := by
  rw [Shape.rowMajor_val_one]
  have hx : (x 0).val < 1 := (x 0).isLt
  show i.val + 1 * (x 0).val = i.val
  omega
theorem sem_send1 {off : Fin 1 → ℕ} {h} (i : Fin 16) (e : off = ![i.val]) :
    ((cc0_scratch4.slice (Rect.unit (s := S16) off S1.size h)).squeeze S_ squeezes_S1_S_ : DmaSems sig S_).sem = semAt 0 i := by
  subst e
  exact Fin.ext (congrArg (5 + ·) (unit_off i h _))
theorem sem_recv1 {off : Fin 1 → ℕ} {h} (i : Fin 16) (e : off = ![i.val]) :
    ((cc0_scratch5.slice (Rect.unit (s := S16) off S1.size h)).squeeze S_ squeezes_S1_S_ : DmaSems sig S_).sem = semAt 1 i := by
  subst e
  exact Fin.ext (congrArg (21 + ·) (unit_off i h _))
theorem sem_send2 {off : Fin 1 → ℕ} {h} (i : Fin 16) (e : off = ![i.val]) :
    ((cc0_scratch6.slice (Rect.unit (s := S16) off S1.size h)).squeeze S_ squeezes_S1_S_ : DmaSems sig S_).sem = semAt 2 i := by
  subst e
  exact Fin.ext (congrArg (37 + ·) (unit_off i h _))
theorem sem_recv2 {off : Fin 1 → ℕ} {h} (i : Fin 16) (e : off = ![i.val]) :
    ((cc0_scratch7.slice (Rect.unit (s := S16) off S1.size h)).squeeze S_ squeezes_S1_S_ : DmaSems sig S_).sem = semAt 3 i := by
  subst e
  exact Fin.ext (congrArg (53 + ·) (unit_off i h _))
theorem chunk_eq {off : Fin 2 → ℕ} {h p} (t : Fin 16) (e : off = ![32 * t.val, 0]) :
    partM.slice (Rect.unit (s := S512x512) off S32x512.size h) p = chunkM t := by subst e; rfl
theorem slot_eq (b : Memref sig .tc .vmem S16x32x512 .bf16) {off : Fin 3 → ℕ} {h p} (t : Fin 16) (e : off = ![t.val, 0, 0]) :
    (b.slice (Rect.unit (s := S16x32x512) off S1x32x512.size h) p).squeeze S32x512 squeezes_S1x32x512_S32x512 = slotM b t := by subst e; rfl

end Cert.KernelIdealProof

end
-- ==== Proof.MemKernelIdeal.lean ====
/-
# The buffers and their parts

Where the rows of the share and the slots of the two buffers lie, how they make up the whole buffers, and what the
kernel's stores into its own slots leave.
-/
module

public import proofs.«01_k».proof.Proof.StepsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers -/

omit [FloatOps F] in
theorem pts_whole (c : Dev nD) (b : Ref sig .tc) (h : b.space = .vmem) (q : PosShare TreeShare) (f : b.ty.Contents (Elt F)) :
    ((Memref.whole b).view.loc (c : Thread nD τ) ↦[(Memref.whole b).view.set]{q} f : sProp 𝕄) = (((c : Thread nD τ).loc b) ↦{q} f) := by
  rw [View.set_whole]

omit [FloatOps F] in
theorem load_sub {s : Shape} {e : EltTy} (v : Memref sig .tc .vmem s e) (S : Finset s.Idx) : v.view.setOn S ⊆ v.view.set :=
  Finset.map_subset_map.2 (Finset.subset_univ _)

/-! ## The slots of a buffer of sixteen, the chunks of the share -/

theorem mem_scat (t : Fin 16) (i : S16x32x512.Idx) : i ∈ (slotM scatM t).view.set ↔ i 0 = t := by
  constructor
  · intro h
    obtain ⟨x, -, rfl⟩ := Finset.mem_map.mp h
    rw [scat_emb]
  · rintro rfl
    refine Finset.mem_map.mpr ⟨ix2 (i 1) (i 2), Finset.mem_univ _, ?_⟩
    refine (scat_emb (i 0) (ix2 (i 1) (i 2))).trans ?_
    funext a; fin_cases a <;> rfl
theorem mem_gath (t : Fin 16) (i : S16x32x512.Idx) : i ∈ (slotM gathM t).view.set ↔ i 0 = t := by
  constructor
  · intro h
    obtain ⟨x, -, rfl⟩ := Finset.mem_map.mp h
    rw [gath_emb]
  · rintro rfl
    refine Finset.mem_map.mpr ⟨ix2 (i 1) (i 2), Finset.mem_univ _, ?_⟩
    refine (gath_emb (i 0) (ix2 (i 1) (i 2))).trans ?_
    funext a; fin_cases a <;> rfl
theorem mem_chunk (t : Fin 16) (i : S512x512.Idx) : i ∈ (chunkM t).view.set ↔ (i 0).val / 32 = t.val := by
  constructor
  · intro h
    obtain ⟨x, -, rfl⟩ := Finset.mem_map.mp h
    rw [chunk_emb]
    have hx : (x 0).val < 32 := (x 0).isLt
    show (32 * t.val + (x 0).val) / 32 = t.val
    omega
  · intro h
    have hi : (i 0).val < 512 := (i 0).isLt
    refine Finset.mem_map.mpr ⟨ix2 ⟨(i 0).val % 32, Nat.mod_lt _ (by decide)⟩ (i 1), Finset.mem_univ _, ?_⟩
    rw [chunk_emb]
    funext a
    refine Fin.ext ?_
    fin_cases a
    · show 32 * t.val + (i 0).val % 32 = (i 0).val
      omega
    · rfl

omit [FloatOps F] in
theorem scat_split (c : Dev nD) (f : cc0_scratch1.ty.Contents (Elt F)) :
    pts (F := F) c (Memref.whole cc0_scratch1) fullShare f = bigSep Finset.univ (fun t : Fin 16 => pts c (slotM scatM t) fullShare f) := by
  unfold pts
  rw [show (Memref.whole cc0_scratch1).view.set = Finset.univ.biUnion (fun t : Fin 16 => (slotM scatM t).view.set) from
    (View.set_whole _).trans (Finset.eq_univ_of_forall fun i => Finset.mem_biUnion.mpr ⟨i 0, Finset.mem_univ _, (mem_scat _ i).mpr rfl⟩).symm]
  exact pointsTo_biUnion _ _ (fun t _ t' _ hne => Finset.disjoint_left.mpr fun i h h' => hne (((mem_scat t i).mp h).symm.trans ((mem_scat t' i).mp h')))

omit [FloatOps F] in
theorem gath_split (c : Dev nD) (f : cc0_scratch3.ty.Contents (Elt F)) :
    pts (F := F) c (Memref.whole cc0_scratch3) fullShare f = bigSep Finset.univ (fun t : Fin 16 => pts c (slotM gathM t) fullShare f) := by
  unfold pts
  rw [show (Memref.whole cc0_scratch3).view.set = Finset.univ.biUnion (fun t : Fin 16 => (slotM gathM t).view.set) from
    (View.set_whole _).trans (Finset.eq_univ_of_forall fun i => Finset.mem_biUnion.mpr ⟨i 0, Finset.mem_univ _, (mem_gath _ i).mpr rfl⟩).symm]
  exact pointsTo_biUnion _ _ (fun t _ t' _ hne => Finset.disjoint_left.mpr fun i h h' => hne (((mem_gath t i).mp h).symm.trans ((mem_gath t' i).mp h')))

omit [FloatOps F] in
theorem part_split (c : Dev nD) (f : cc0_scratch0.ty.Contents (Elt F)) :
    pts (F := F) c (Memref.whole cc0_scratch0) fullShare f = bigSep Finset.univ (fun t : Fin 16 => pts c (chunkM t) fullShare f) := by
  unfold pts
  rw [show (Memref.whole cc0_scratch0).view.set = Finset.univ.biUnion (fun t : Fin 16 => (chunkM t).view.set) from
    (View.set_whole _).trans (Finset.eq_univ_of_forall fun i => Finset.mem_biUnion.mpr ⟨⟨(i 0).val / 32, by have h : (i 0).val < 512 := (i 0).isLt; omega⟩, Finset.mem_univ _, (mem_chunk _ i).mpr rfl⟩).symm]
  exact pointsTo_biUnion _ _ (fun t _ t' _ hne => Finset.disjoint_left.mpr fun i h h' => hne (Fin.ext (((mem_chunk t i).mp h).symm.trans ((mem_chunk t' i).mp h'))))

/-! ## A device's own slot -/

theorem chunk_sub (t : Fin 16) {off : Fin 2 → ℕ} {h} (e : off = ![32 * t.val, 0]) :
    partM.view.setOn (Rect.unit (s := S512x512) off S32x512.size h).toLoadRect.set ⊆ (chunkM t).view.set := by
  subst e
  rw [View.set_slice]; exact Finset.Subset.refl _
theorem scat_sub (t : Fin 16) {off : Fin 3 → ℕ} {h} (e : off = ![t.val, 0, 0]) :
    scatM.view.setOn (Rect.unit (s := S16x32x512) off S1x32x512.size h).toLoadRect.set ⊆ (slotM scatM t).view.set := by
  subst e
  rw [View.set_reshape, View.set_slice]; exact Finset.Subset.refl _
theorem scat_sub' (t : Fin 16) {off : Fin 3 → ℕ} {h} (e : off = ![t.val, 0, 0]) :
    (scatM.access (Rect.unit (s := S16x32x512) off S1x32x512.size h)).setOn Finset.univ ⊆ (slotM scatM t).view.set := by
  subst e
  rw [View.set_reshape]; exact Finset.Subset.refl _
theorem scat_put (t : Fin 16) {off : Fin 3 → ℕ} {h} (e : off = ![t.val, 0, 0]) (f : scatM.view.ref.ty.Contents (Elt F)) (w : Vec F S32x512 .bf16) (x : S32x512.Idx) :
    (scatM.access (Rect.unit (s := S16x32x512) off S1x32x512.size h)).write (Elt F) f (shapeCast S1x32x512 w shapeCasts_S32x512_S1x32x512) Finset.univ
      ((slotM scatM t).view.emb x) = w x := by
  subst e
  show (scatM.access (Rect.unit (s := S16x32x512) ![t.val, 0, 0] S1x32x512.size h)).write (Elt F) f _ Finset.univ
    ((scatM.access (Rect.unit (s := S16x32x512) ![t.val, 0, 0] S1x32x512.size h)).emb (Shape.reshapeEquiv squeezes_S1x32x512_S32x512.numel_eq x)) = _
  rw [View.write_emb_of_mem _ _ (Finset.mem_univ _)]
  unfold shapeCast
  rw [Shape.reshapeEquiv_reshapeEquiv, Shape.reshapeEquiv_self]
  rfl
theorem gath_sub (t : Fin 16) {off : Fin 3 → ℕ} {h} (e : off = ![t.val, 0, 0]) :
    gathM.view.setOn (Rect.unit (s := S16x32x512) off S1x32x512.size h).toLoadRect.set ⊆ (slotM gathM t).view.set := by
  subst e
  rw [View.set_reshape, View.set_slice]; exact Finset.Subset.refl _
theorem gath_sub' (t : Fin 16) {off : Fin 3 → ℕ} {h} (e : off = ![t.val, 0, 0]) :
    (gathM.access (Rect.unit (s := S16x32x512) off S1x32x512.size h)).setOn Finset.univ ⊆ (slotM gathM t).view.set := by
  subst e
  rw [View.set_reshape]; exact Finset.Subset.refl _
theorem gath_put (t : Fin 16) {off : Fin 3 → ℕ} {h} (e : off = ![t.val, 0, 0]) (f : gathM.view.ref.ty.Contents (Elt F)) (w : Vec F S32x512 .bf16) (x : S32x512.Idx) :
    (gathM.access (Rect.unit (s := S16x32x512) off S1x32x512.size h)).write (Elt F) f (shapeCast S1x32x512 w shapeCasts_S32x512_S1x32x512) Finset.univ
      ((slotM gathM t).view.emb x) = w x := by
  subst e
  show (gathM.access (Rect.unit (s := S16x32x512) ![t.val, 0, 0] S1x32x512.size h)).write (Elt F) f _ Finset.univ
    ((gathM.access (Rect.unit (s := S16x32x512) ![t.val, 0, 0] S1x32x512.size h)).emb (Shape.reshapeEquiv squeezes_S1x32x512_S32x512.numel_eq x)) = _
  rw [View.write_emb_of_mem _ _ (Finset.mem_univ _)]
  unfold shapeCast
  rw [Shape.reshapeEquiv_reshapeEquiv, Shape.reshapeEquiv_self]
  rfl
/-- The first phase's own slot. -/
theorem own1 (c : Dev nD) {off : Fin 2 → ℕ} {h} (e : off = ![32 * c.val, 0]) {off' : Fin 3 → ℕ} {h'} (e' : off' = ![c.val, 0, 0]) (f : scatM.view.ref.ty.Contents (Elt F)) :
    pts c (slotM scatM c) fullShare ((scatM.access (Rect.unit (s := S16x32x512) off' S1x32x512.size h')).write (Elt F) f
        (k0_pay8 (partM.view.readAt (Elt F) (Rect.unit (s := S512x512) off S32x512.size h).toLoadRect (partC m c))) Finset.univ)
      = pts c (slotM scatM c) fullShare (scatC m c) := by
  unfold pts
  refine pointsTo_congr fun i hi => ?_
  obtain ⟨x, -, rfl⟩ := Finset.mem_map.mp hi
  subst e
  refine (scat_put c e' f _ x).trans ?_
  rw [scat_emb]
  show partC m c ((chunkM c).view.emb x) = _
  rw [chunk_emb]; rfl
/-- The second phase's own slot. -/
theorem own2 (c : Dev nD) {off' : Fin 3 → ℕ} {h'} (e' : off' = ![c.val, 0, 0]) (f : gathM.view.ref.ty.Contents (Elt F)) :
    pts c (slotM gathM c) fullShare ((gathM.access (Rect.unit (s := S16x32x512) off' S1x32x512.size h')).write (Elt F) f (k0_pay11 (scatC m c)) Finset.univ)
      = pts c (slotM gathM c) fullShare (gathC m) := by
  unfold pts
  refine pointsTo_congr fun i hi => ?_
  obtain ⟨x, -, rfl⟩ := Finset.mem_map.mp hi
  refine (gath_put c e' f _ x).trans ?_
  rw [gath_emb]
  show _ = redC m c (ix2 (x 0) (x 1))
  refine Eq.trans ?_ (congrArg (redC m c) (idx2_eta x))
  unfold redC k0_pay10 shapeCast
  rw [Shape.reshapeEquiv_self]

/-! ## Read shares of the sum -/

theorem red_split (c : Dev nD) (f : cc0_scratch2.ty.Contents (Elt F)) :
    pts (F := F) c redM fullShare f ⊣⊢ iprop(pts c redM (Transfers.shareDrop fullShare 16) f
      ∗ bigSep Finset.univ (fun t : Fin 16 => pts c redM (Transfers.shareTok fullShare 16 t) f)) := by
  unfold pts; exact Transfers.pointsTo_toks fullShare 16

/-! ## Between the phases -/

theorem bigSep_orig {M : Type*} [URA M] (c : Dev nD) (Φ : Fin 16 → sProp M) :
    bigSep Finset.univ (fun r => Φ (orig c r)) = bigSep Finset.univ (fun r => Φ (peer c r)) := by
  rw [bigSep_univ_equiv (⟨opp, opp, opp_opp, opp_opp⟩ : Fin 15 ≃ Fin 15) (fun r => Φ (peer c r))]
  exact bigSep_congr fun r _ => by rw [orig_eq]; rfl

/-- The last wait's outcome: what was handed over, and the counters. -/
theorem wait_done (c : Dev nD) (k : Fin 4) (idx : Fin 15 → Fin 16) (b e n : ℕ) (hn : n = 15) :
    waitSt m c k idx b e n ⊢ iprop(bigSep Finset.univ (fun r => xferPay m c k.val (idx r))
      ∗ bigSep Finset.univ (fun r => semVal (xferCell c k (idx r)) 0) ∗ Ow c 15 b e) := by
  subst hn
  unfold waitSt
  rw [mix_end]
  unfold waitB
  rw [bigSep_sep']
  iintro ⟨⟨H1, H2⟩, HO⟩
  isplitl [H1]; · iexact H1
  isplitl [H2] <;> iassumption

/-- Ready to wait. -/
theorem wait_begin (c : Dev nD) (k : Fin 4) (idx : Fin 15 → Fin 16) (b e : ℕ) :
    iprop(bigSep Finset.univ (waitA (F := F) c k idx) ∗ Ow c 15 b e) ⊢ waitSt m c k idx b e 0 := by
  unfold waitSt
  rw [mix_zero]

theorem send1_done (c : Dev nD) (n : ℕ) (hn : n = 15) : sendSt1 m c n ⊢ iprop(bigSep Finset.univ (sendB (F := F) c 0) ∗ Ow c 15 15 0) := by
  subst hn; unfold sendSt1; rw [mix_end]
theorem send2_done (c : Dev nD) (n : ℕ) (hn : n = 15) : sendSt2 m c n ⊢ iprop(bigSep Finset.univ (sendB (F := F) c 2) ∗ Ow c 15 15 15) := by
  subst hn; unfold sendSt2; rw [mix_end]

/-- The scatter buffer whole again. -/
theorem scat_whole (c : Dev nD) :
    iprop(pts c (slotM scatM c) fullShare (scatC m c) ∗ bigSep Finset.univ (fun r => xferPay m c (1 : Fin 4).val (orig c r))) ⊢ pts c scatM fullShare (scatC m c) := by
  rw [bigSep_orig c (fun i => xferPay m c (1 : Fin 4).val i), scat_split, bigSep_dev c]
  exact Entails.of_eq rfl
theorem gath_whole (c : Dev nD) :
    iprop(pts c (slotM gathM c) fullShare (gathC m) ∗ bigSep Finset.univ (fun r => xferPay m c (3 : Fin 4).val (orig c r))) ⊢ pts c gathM fullShare (gathC m) := by
  rw [bigSep_orig c (fun i => xferPay m c (3 : Fin 4).val i), gath_split, bigSep_dev c]
  exact Entails.of_eq rfl

theorem cred_scat {off : Fin 3 → ℕ} {h p} :
    ((scatM.slice (Rect.unit (s := S16x32x512) off S1x32x512.size h) p).squeeze S32x512 squeezes_S1x32x512_S32x512).view.dmaCredit = N := rfl
theorem cred_gath {off : Fin 3 → ℕ} {h p} :
    ((gathM.slice (Rect.unit (s := S16x32x512) off S1x32x512.size h) p).squeeze S32x512 squeezes_S1x32x512_S32x512).view.dmaCredit = N := rfl
theorem cred_chunk {off : Fin 2 → ℕ} {h p} : (partM.slice (Rect.unit (s := S512x512) off S32x512.size h) p).view.dmaCredit = N := rfl

theorem zero2 : (![0, 0] : Fin 2 → ℕ) = fun _ => 0 := by funext a; fin_cases a <;> rfl
theorem zero3 : (![0, 0, 0] : Fin 3 → ℕ) = fun _ => 0 := by funext a; fin_cases a <;> rfl

theorem part_store (f w : cc0_scratch0.ty.Contents (Elt F)) {inb} :
    (partM.access (Rect.unit (s := S512x512) ![0, 0] S512x512.size inb)).write (Elt F) f w Finset.univ = w :=
  Memref.write_access_unit_zero_univ (Elt F) cc0_scratch0 zero2 _ f w
theorem red_store (f w : cc0_scratch2.ty.Contents (Elt F)) {inb} :
    (redM.access (Rect.unit (s := S32x512) ![0, 0] S32x512.size inb)).write (Elt F) f w Finset.univ = w :=
  Memref.write_access_unit_zero_univ (Elt F) cc0_scratch2 zero2 _ f w
theorem out_store (f w : cc0_stg4_0.ty.Contents (Elt F)) {inb} :
    (oM.access (Rect.unit (s := S512x512) ![0, 0] S512x512.size inb)).write (Elt F) f w Finset.univ = w :=
  Memref.write_access_unit_zero_univ (Elt F) cc0_stg4_0 zero2 _ f w
theorem scat_load (f : cc0_scratch1.ty.Contents (Elt F)) {inb} :
    scatM.view.readAt (Elt F) (Rect.unit (s := S16x32x512) ![0, 0, 0] S16x32x512.size inb).toLoadRect f = f :=
  Memref.readAt_unit_zero (Elt F) cc0_scratch1 zero3 _ f
theorem gath_load (f : cc0_scratch3.ty.Contents (Elt F)) {inb} :
    gathM.view.readAt (Elt F) (Rect.unit (s := S16x32x512) ![0, 0, 0] S16x32x512.size inb).toLoadRect f = f :=
  Memref.readAt_unit_zero (Elt F) cc0_scratch3 zero3 _ f

end Cert.KernelIdealProof

end
-- ==== Proof.PartsAKernelIdeal.lean ====
/-
# The kernel's parts

What each part of the kernel's body takes and leaves: the steps and the memory operations in program order.
-/
module

public import proofs.«01_k».proof.Proof.MemKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-! ## The parts -/

section Parts
variable (c : Dev nD)

theorem part1_spec {R : sProp 𝕄} {Q : (Σ' (d0 : Dev nD) (v2 : BitVec 32) (v3 : Sems sig S_) (v24 : BitVec 32), BitVec 32) → sProp 𝕄}
    (h : ∀ w, iprop(env m K ∗ sigSt c 5 ∗ R) ⊢ Q ⟨c, place c, (SemArray.scalar (sig.barrier 0 rfl)), w, 16#32⟩) :
    iprop(env m K ∗ sigSt c 0 ∗ R) ⊢ wp frame (wpE (defs₀ (F := F)) 𝒱₀ (c : Thread nD τ) none) Set.univ
      (k0_part1 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7) Q := by
  rw [k0_part1_eq_skeleton]; unfold k0_part1_skel
  simp only [semSignalWord, semWaitWord, Prog.lift, Prog.bind_op, Prog.bind_ret, Prog.pure_eq_ret, wp_deviceId]
  refine sig_step m K c _ 0 (Fin.ext (k0_dev1_eq c)) _ rfl ?_
  refine sig_step m K c _ 1 (Fin.ext (k0_dev2_eq c)) _ rfl ?_
  refine sig_step m K c _ 2 (Fin.ext (k0_dev3_eq c)) _ rfl ?_
  refine sig_step m K c _ 3 (Fin.ext (k0_dev4_eq c)) _ rfl ?_
  refine sig_step m K c _ 4 (Fin.ext (k0_dev5_eq c)) _ rfl ?_
  exact (h _).trans fupd_intro

theorem part2_spec (v24 c16 : BitVec 32) {R : sProp 𝕄} {Q : (Σ' (v48 : BitVec 32), BitVec 32) → sProp 𝕄}
    (h : ∀ w, iprop(env m K ∗ sigSt c 11 ∗ R) ⊢ Q ⟨w, 16#32⟩) :
    iprop(env m K ∗ sigSt c 5 ∗ R) ⊢ wp frame (wpE (defs₀ (F := F)) 𝒱₀ (c : Thread nD τ) none) Set.univ
      (k0_part2 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) (SemArray.scalar (sig.barrier 0 rfl)) v24 c16) Q := by
  rw [k0_part2_eq_skeleton]; unfold k0_part2_skel
  simp only [semSignalWord, semWaitWord, Prog.lift, Prog.bind_op, Prog.bind_ret, Prog.pure_eq_ret, wp_deviceId]
  refine sig_step m K c _ 5 (Fin.ext (k0_dev6_eq c)) _ rfl ?_
  refine sig_step m K c _ 6 (Fin.ext (k0_dev7_eq c)) _ rfl ?_
  refine sig_step m K c _ 7 (Fin.ext (k0_dev8_eq c)) _ rfl ?_
  refine sig_step m K c _ 8 (Fin.ext (k0_dev9_eq c)) _ rfl ?_
  refine sig_step m K c _ 9 (Fin.ext (k0_dev10_eq c)) _ rfl ?_
  refine sig_step m K c _ 10 (Fin.ext (k0_dev11_eq c)) _ rfl ?_
  exact (h _).trans fupd_intro

theorem part3_spec (v48 c16 : BitVec 32) {R : sProp 𝕄} {Q : (Σ' (v65 : FVec F S512x256 .f32), FVec F S512x32 .f32) → sProp 𝕄}
    (h : iprop(env m K ∗ sigSt c 15 ∗ (pts c xM fullShare (xstg0 m c) ∗ pts c rwM fullShare (xstg1 m c) ∗ R)) ⊢ Q ⟨k0_pay1 (ldX m c), k0_pay2 (ldX m c) (ldR m c)⟩) :
    iprop(env m K ∗ sigSt c 11 ∗ (pts c xM fullShare (xstg0 m c) ∗ pts c rwM fullShare (xstg1 m c) ∗ R)) ⊢ wp frame (wpE (defs₀ (F := F)) 𝒱₀ (c : Thread nD τ) none) Set.univ
      (k0_part3 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) (SemArray.scalar (sig.barrier 0 rfl)) v48 c16) Q := by
  rw [k0_part3_eq_skeleton]; unfold k0_part3_skel
  simp only [semSignalWord, semWaitWord, Prog.lift, Prog.bind_op, Prog.bind_ret, Prog.pure_eq_ret, wp_deviceId]
  unfold ldX ldR pts at h
  unfold pts
  refine sig_step m K c _ 11 (Fin.ext (k0_dev12_eq c)) _ rfl ?_
  refine sig_step m K c _ 12 (Fin.ext (k0_dev13_eq c)) _ rfl ?_
  refine sig_step m K c _ 13 (Fin.ext (k0_dev14_eq c)) _ rfl ?_
  refine sig_step m K c _ 14 (Fin.ext (k0_dev15_eq c)) _ rfl ?_
  iintro ⟨#He, HS, Hx, Hr, HR⟩
  iapply (wp_load 𝒱₀ (c : Thread nD τ) none Set.univ (m := xM) (load_sub xM _)) $$ Hx; iintro Hx
  iapply (wp_load 𝒱₀ (c : Thread nD τ) none Set.univ (m := rwM) (load_sub rwM _)) $$ Hr; iintro Hr
  rw [wp_ret]; imodintro
  iapply h
  isplitr; · iexact He
  isplitl [HS]; · iexact HS
  isplitl [Hx]; · iexact Hx
  isplitl [Hr] <;> iassumption

theorem part4_spec {R : sProp 𝕄} {Q : (Σ' (v79 : IVec S512x1 32) (v81 : IVec S512x1 32) (v82 : IVec S512x32 32) (v95 : FVec F S512x1 .f32) (v120 : FVec F S512x512 .f32), BitVec 32) → sProp 𝕄}
    (h : iprop(pts c ixM fullShare (xstg2 m c) ∗ pts c wM fullShare (xstg3 m c) ∗ R) ⊢ Q ⟨k0_pay3 (ldI0 m c), k0_pay4 (ldI1 m c), iota .tc S512x32 32 [1] iota_S512x32_d1_w32, k0_pay5 (k0_pay2 (ldX m c) (ldR m c)) (ldI0 m c) (ldI1 m c), k0_pay6 (place c) (k0_pay1 (ldX m c)) (k0_pay2 (ldX m c) (ldR m c)) (ldI0 m c) (ldI1 m c) (ldW0 m c), 2#32⟩) :
    iprop(pts c ixM fullShare (xstg2 m c) ∗ pts c wM fullShare (xstg3 m c) ∗ R) ⊢ wp frame (wpE (defs₀ (F := F)) 𝒱₀ (c : Thread nD τ) none) Set.univ
      (k0_part4 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 (place c) (k0_pay1 (ldX m c)) (k0_pay2 (ldX m c) (ldR m c))) Q := by
  rw [k0_part4_eq_skeleton]; unfold k0_part4_skel
  simp only [semSignalWord, semWaitWord, Prog.lift, Prog.bind_op, Prog.bind_ret, Prog.pure_eq_ret, wp_deviceId]
  unfold ldI0 ldI1 ldW0 pts at h
  unfold pts
  iintro ⟨Hi, Hw, HR⟩
  iapply (wp_load 𝒱₀ (c : Thread nD τ) none Set.univ (m := ixM) (load_sub ixM _)) $$ Hi; iintro Hi
  iapply (wp_load 𝒱₀ (c : Thread nD τ) none Set.univ (m := ixM) (load_sub ixM _)) $$ Hi; iintro Hi
  iapply (wp_load 𝒱₀ (c : Thread nD τ) none Set.univ (m := wM) (load_sub wM _)) $$ Hw; iintro Hw
  rw [wp_ret]; imodintro
  iapply h
  isplitl [Hi]; · iexact Hi
  isplitl [Hw] <;> iassumption

theorem part5_spec {R : sProp 𝕄} {Q : PUnit → sProp 𝕄}
    (h : iprop(env m K ∗ barSt₁ c ∗ (pts c wM fullShare (xstg3 m c) ∗ pts c partM fullShare (partC m c) ∗ R)) ⊢ Q ⟨⟩) :
    iprop(env m K ∗ barSt₀ c ∗ (pts c wM fullShare (xstg3 m c) ∗ (∃ f, pts c partM fullShare f) ∗ R)) ⊢ wp frame (wpE (defs₀ (F := F)) 𝒱₀ (c : Thread nD τ) none) Set.univ
      (k0_part5 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) (SemArray.scalar (sig.barrier 0 rfl)) (k0_pay1 (ldX m c)) (k0_pay2 (ldX m c) (ldR m c)) (k0_pay3 (ldI0 m c)) (k0_pay4 (ldI1 m c)) (iota .tc S512x32 32 [1] iota_S512x32_d1_w32) (k0_pay5 (k0_pay2 (ldX m c) (ldR m c)) (ldI0 m c) (ldI1 m c)) (k0_pay6 (place c) (k0_pay1 (ldX m c)) (k0_pay2 (ldX m c) (ldR m c)) (ldI0 m c) (ldI1 m c) (ldW0 m c)) 2#32) Q := by
  rw [k0_part5_eq_skeleton]; unfold k0_part5_skel
  simp only [semSignalWord, semWaitWord, Prog.lift, Prog.bind_op, Prog.bind_ret, Prog.pure_eq_ret, wp_deviceId]
  iintro ⟨#He, HS, Hw, ⟨%f, Hp⟩, HR⟩
  unfold pts
  iapply (wp_load 𝒱₀ (c : Thread nD τ) none Set.univ (m := wM) (load_sub wM _)) $$ Hw; iintro Hw
  iapply (wp_load 𝒱₀ (c : Thread nD τ) none Set.univ (m := partM) (load_sub partM _)) $$ Hp; iintro Hp
  iapply (wp_store 𝒱₀ (c : Thread nD τ) none Set.univ (m := partM) (r := Rect.unit (s := S512x512) ![0, 0] S512x512.size inb_S512x512_S512x512_0_0) (Mk := Finset.univ) (by rw [View.set_whole]; exact Finset.subset_univ _)) $$ Hp; iintro Hp
  rw [part_store]
  iapply (bar_step m K c _ rfl (h.trans fupd_intro))
  isplitr; · iexact He
  isplitl [HS]; · iexact HS
  unfold pts
  isplitl [Hw]; · iexact Hw
  isplitl [Hp]; · unfold partC ldW1; iexact Hp
  iexact HR

end Parts

end Cert.KernelIdealProof

end
-- ==== Proof.PartsBKernelIdeal.lean ====
/-
# The kernel's parts

What each part of the kernel's body takes and leaves: the steps and the memory operations in program order.
-/
module

public import proofs.«01_k».proof.Proof.MemKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-! ## The parts -/

section Parts
variable (c : Dev nD)

theorem part6_spec {R : sProp 𝕄} {Q : PUnit → sProp 𝕄}
    (h : iprop(env m K ∗ sendSt1 m c 3 ∗ R) ⊢ Q ⟨⟩) :
    iprop(env m K ∗ sendSt1 m c 0 ∗ R) ⊢ wp frame (wpE (defs₀ (F := F)) 𝒱₀ (c : Thread nD τ) none) Set.univ
      (k0_part6 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part6_eq_skeleton]; unfold k0_part6_skel
  simp only [semSignalWord, semWaitWord, Prog.lift, Prog.bind_op, Prog.bind_ret, Prog.pure_eq_ret, wp_deviceId]
  refine send1_step m K c _ 0 (Fin.ext (k0_dev16_eq c)) (chunk_eq (peer c 0) (k0_off4_eq c 0)) (slot_eq scatM c (k0_off3_eq c)) (sem_send1 (peer c 0) (k0_off1_eq c 0)) (sem_recv1 c (k0_off2_eq c)) ?_
  refine send1_step m K c _ 1 (Fin.ext (k0_dev17_eq c)) (chunk_eq (peer c 1) (k0_off4_eq c 1)) (slot_eq scatM c (k0_off3_eq c)) (sem_send1 (peer c 1) (k0_off1_eq c 1)) (sem_recv1 c (k0_off2_eq c)) ?_
  refine send1_step m K c _ 2 (Fin.ext (k0_dev18_eq c)) (chunk_eq (peer c 2) (k0_off4_eq c 2)) (slot_eq scatM c (k0_off3_eq c)) (sem_send1 (peer c 2) (k0_off1_eq c 2)) (sem_recv1 c (k0_off2_eq c)) ?_
  exact h.trans fupd_intro

theorem part7_spec {R : sProp 𝕄} {Q : PUnit → sProp 𝕄}
    (h : iprop(env m K ∗ sendSt1 m c 6 ∗ R) ⊢ Q ⟨⟩) :
    iprop(env m K ∗ sendSt1 m c 3 ∗ R) ⊢ wp frame (wpE (defs₀ (F := F)) 𝒱₀ (c : Thread nD τ) none) Set.univ
      (k0_part7 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part7_eq_skeleton]; unfold k0_part7_skel
  simp only [semSignalWord, semWaitWord, Prog.lift, Prog.bind_op, Prog.bind_ret, Prog.pure_eq_ret, wp_deviceId]
  refine send1_step m K c _ 3 (Fin.ext (k0_dev19_eq c)) (chunk_eq (peer c 3) (k0_off4_eq c 3)) (slot_eq scatM c (k0_off3_eq c)) (sem_send1 (peer c 3) (k0_off1_eq c 3)) (sem_recv1 c (k0_off2_eq c)) ?_
  refine send1_step m K c _ 4 (Fin.ext (k0_dev20_eq c)) (chunk_eq (peer c 4) (k0_off4_eq c 4)) (slot_eq scatM c (k0_off3_eq c)) (sem_send1 (peer c 4) (k0_off1_eq c 4)) (sem_recv1 c (k0_off2_eq c)) ?_
  refine send1_step m K c _ 5 (Fin.ext (k0_dev21_eq c)) (chunk_eq (peer c 5) (k0_off4_eq c 5)) (slot_eq scatM c (k0_off3_eq c)) (sem_send1 (peer c 5) (k0_off1_eq c 5)) (sem_recv1 c (k0_off2_eq c)) ?_
  exact h.trans fupd_intro

theorem part8_spec {R : sProp 𝕄} {Q : (Σ' (v260 : BitVec 32), BitVec 32) → sProp 𝕄}
    (h : ∀ w, iprop(env m K ∗ sendSt1 m c 9 ∗ R) ⊢ Q ⟨w, 0#32⟩) :
    iprop(env m K ∗ sendSt1 m c 6 ∗ R) ⊢ wp frame (wpE (defs₀ (F := F)) 𝒱₀ (c : Thread nD τ) none) Set.univ
      (k0_part8 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part8_eq_skeleton]; unfold k0_part8_skel
  simp only [semSignalWord, semWaitWord, Prog.lift, Prog.bind_op, Prog.bind_ret, Prog.pure_eq_ret, wp_deviceId]
  refine send1_step m K c _ 6 (Fin.ext (k0_dev22_eq c)) (chunk_eq (peer c 6) (k0_off4_eq c 6)) (slot_eq scatM c (k0_off3_eq c)) (sem_send1 (peer c 6) (k0_off1_eq c 6)) (sem_recv1 c (k0_off2_eq c)) ?_
  refine send1_step m K c _ 7 (Fin.ext (k0_dev23_eq c)) (chunk_eq (peer c 7) (k0_off4_eq c 7)) (slot_eq scatM c (k0_off3_eq c)) (sem_send1 (peer c 7) (k0_off1_eq c 7)) (sem_recv1 c (k0_off2_eq c)) ?_
  refine send1_step m K c _ 8 (Fin.ext (k0_dev24_eq c)) (chunk_eq (peer c 8) (k0_off4_eq c 8)) (slot_eq scatM c (k0_off3_eq c)) (sem_send1 (peer c 8) (k0_off1_eq c 8)) (sem_recv1 c (k0_off2_eq c)) ?_
  exact (h _).trans fupd_intro

theorem part9_spec (v w : BitVec 32) {R : sProp 𝕄} {Q : (BitVec 32) → sProp 𝕄}
    (h : ∀ w, iprop(env m K ∗ sendSt1 m c 12 ∗ R) ⊢ Q w) :
    iprop(env m K ∗ sendSt1 m c 9 ∗ R) ⊢ wp frame (wpE (defs₀ (F := F)) 𝒱₀ (c : Thread nD τ) none) Set.univ
      (k0_part9 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) v w) Q := by
  rw [k0_part9_eq_skeleton]; unfold k0_part9_skel
  simp only [semSignalWord, semWaitWord, Prog.lift, Prog.bind_op, Prog.bind_ret, Prog.pure_eq_ret, wp_deviceId]
  refine send1_step m K c _ 9 (Fin.ext (k0_dev25_eq c)) (chunk_eq (peer c 9) (k0_off4_eq c 9)) (slot_eq scatM c (k0_off3_eq c)) (sem_send1 (peer c 9) (k0_off1_eq c 9)) (sem_recv1 c (k0_off2_eq c)) ?_
  refine send1_step m K c _ 10 (Fin.ext (k0_dev26_eq c)) (chunk_eq (peer c 10) (k0_off4_eq c 10)) (slot_eq scatM c (k0_off3_eq c)) (sem_send1 (peer c 10) (k0_off1_eq c 10)) (sem_recv1 c (k0_off2_eq c)) ?_
  refine send1_step m K c _ 11 (Fin.ext (k0_dev27_eq c)) (chunk_eq (peer c 11) (k0_off4_eq c 11)) (slot_eq scatM c (k0_off3_eq c)) (sem_send1 (peer c 11) (k0_off1_eq c 11)) (sem_recv1 c (k0_off2_eq c)) ?_
  exact (h _).trans fupd_intro

theorem part10_spec (v : BitVec 32) {R : sProp 𝕄} {Q : PUnit → sProp 𝕄}
    (h : iprop(env m K ∗ sendSt1 m c 15 ∗ R) ⊢ Q ⟨⟩) :
    iprop(env m K ∗ sendSt1 m c 12 ∗ R) ⊢ wp frame (wpE (defs₀ (F := F)) 𝒱₀ (c : Thread nD τ) none) Set.univ
      (k0_part10 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) v) Q := by
  rw [k0_part10_eq_skeleton]; unfold k0_part10_skel
  simp only [semSignalWord, semWaitWord, Prog.lift, Prog.bind_op, Prog.bind_ret, Prog.pure_eq_ret, wp_deviceId]
  refine send1_step m K c _ 12 (Fin.ext (k0_dev28_eq c)) (chunk_eq (peer c 12) (k0_off4_eq c 12)) (slot_eq scatM c (k0_off3_eq c)) (sem_send1 (peer c 12) (k0_off1_eq c 12)) (sem_recv1 c (k0_off2_eq c)) ?_
  refine send1_step m K c _ 13 (Fin.ext (k0_dev29_eq c)) (chunk_eq (peer c 13) (k0_off4_eq c 13)) (slot_eq scatM c (k0_off3_eq c)) (sem_send1 (peer c 13) (k0_off1_eq c 13)) (sem_recv1 c (k0_off2_eq c)) ?_
  refine send1_step m K c _ 14 (Fin.ext (k0_dev30_eq c)) (chunk_eq (peer c 14) (k0_off4_eq c 14)) (slot_eq scatM c (k0_off3_eq c)) (sem_send1 (peer c 14) (k0_off1_eq c 14)) (sem_recv1 c (k0_off2_eq c)) ?_
  exact h.trans fupd_intro

end Parts

end Cert.KernelIdealProof

end
-- ==== Proof.PartsCKernelIdeal.lean ====
/-
# The kernel's parts

What each part of the kernel's body takes and leaves: the steps and the memory operations in program order.
-/
module

public import proofs.«01_k».proof.Proof.MemKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-! ## The parts -/

section Parts
variable (c : Dev nD)

theorem part11_spec {R : sProp 𝕄} {Q : (BitVec 32) → sProp 𝕄}
    (h : ∀ w, iprop(env m K ∗ waitSt m c 1 (orig c) 15 0 2 ∗ (pts c (chunkM c) fullShare (partC m c) ∗ pts c (slotM scatM c) fullShare (scatC m c) ∗ R)) ⊢ Q w) :
    iprop(env m K ∗ waitSt m c 1 (orig c) 15 0 0 ∗ (pts c (chunkM c) fullShare (partC m c) ∗ (∃ f, pts c (slotM scatM c) fullShare f) ∗ R)) ⊢ wp frame (wpE (defs₀ (F := F)) 𝒱₀ (c : Thread nD τ) none) Set.univ
      (k0_part11 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part11_eq_skeleton]; unfold k0_part11_skel
  simp only [semSignalWord, semWaitWord, Prog.lift, Prog.bind_op, Prog.bind_ret, Prog.pure_eq_ret, wp_deviceId]
  iintro ⟨#He, HS, Hp, ⟨%f, Hs⟩, HR⟩
  unfold pts
  iapply (wp_load 𝒱₀ (c : Thread nD τ) none Set.univ (m := partM) (chunk_sub c (k0_off5_eq c))) $$ Hp; iintro Hp
  iapply (wp_load 𝒱₀ (c : Thread nD τ) none Set.univ (m := scatM) (scat_sub c (k0_off6_eq c))) $$ Hs; iintro Hs
  iapply (wp_store 𝒱₀ (c : Thread nD τ) none Set.univ (m := scatM) (r := Rect.unit (s := S16x32x512) (k0_off6 c) S1x32x512.size (k0_off6_inb c)) (Mk := Finset.univ) (scat_sub' c (k0_off6_eq c))) $$ Hs; iintro Hs
  ihave Hs' := (Entails.of_eq (own1 m c (k0_off5_eq c) (k0_off6_eq c) f)) $$ [Hs]
  · unfold pts; iexact Hs
  iapply (wait_step m K c 1 (orig c) 15 0 (orig_ne c) (fun r => mayWait_recv1 c _) 0 (sem_recv1 (orig c 0) (k0_off7_eq c 0)) (by exact cred_scat)
    (wait_step m K c 1 (orig c) 15 0 (orig_ne c) (fun r => mayWait_recv1 c _) 1 (sem_recv1 (orig c 1) (k0_off7_eq c 1)) (by exact cred_scat) ((h _).trans fupd_intro)))
  isplitr; · iexact He
  isplitl [HS]; · iexact HS
  isplitl [Hp]; · unfold pts; iexact Hp
  isplitl [Hs'] <;> iassumption

theorem part12_spec (v : BitVec 32) {R : sProp 𝕄} {Q : (BitVec 32) → sProp 𝕄}
    (h : ∀ w, iprop(env m K ∗ waitSt m c 1 (orig c) 15 0 5 ∗ R) ⊢ Q w) :
    iprop(env m K ∗ waitSt m c 1 (orig c) 15 0 2 ∗ R) ⊢ wp frame (wpE (defs₀ (F := F)) 𝒱₀ (c : Thread nD τ) none) Set.univ
      (k0_part12 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) v) Q := by
  rw [k0_part12_eq_skeleton]; unfold k0_part12_skel
  simp only [semSignalWord, semWaitWord, Prog.lift, Prog.bind_op, Prog.bind_ret, Prog.pure_eq_ret, wp_deviceId]
  refine wait_step m K c 1 (orig c) 15 0 (orig_ne c) (fun r => mayWait_recv1 c _) 2 (sem_recv1 (orig c 2) (k0_off7_eq c 2)) (by exact cred_scat) ?_
  refine wait_step m K c 1 (orig c) 15 0 (orig_ne c) (fun r => mayWait_recv1 c _) 3 (sem_recv1 (orig c 3) (k0_off7_eq c 3)) (by exact cred_scat) ?_
  refine wait_step m K c 1 (orig c) 15 0 (orig_ne c) (fun r => mayWait_recv1 c _) 4 (sem_recv1 (orig c 4) (k0_off7_eq c 4)) (by exact cred_scat) ?_
  exact (h _).trans fupd_intro

theorem part13_spec (v : BitVec 32) {R : sProp 𝕄} {Q : (Σ' (v416 : BitVec 32), BitVec 32) → sProp 𝕄}
    (h : ∀ w, iprop(env m K ∗ waitSt m c 1 (orig c) 15 0 8 ∗ R) ⊢ Q ⟨w, 16#32⟩) :
    iprop(env m K ∗ waitSt m c 1 (orig c) 15 0 5 ∗ R) ⊢ wp frame (wpE (defs₀ (F := F)) 𝒱₀ (c : Thread nD τ) none) Set.univ
      (k0_part13 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) v) Q := by
  rw [k0_part13_eq_skeleton]; unfold k0_part13_skel
  simp only [semSignalWord, semWaitWord, Prog.lift, Prog.bind_op, Prog.bind_ret, Prog.pure_eq_ret, wp_deviceId]
  refine wait_step m K c 1 (orig c) 15 0 (orig_ne c) (fun r => mayWait_recv1 c _) 5 (sem_recv1 (orig c 5) (k0_off7_eq c 5)) (by exact cred_scat) ?_
  refine wait_step m K c 1 (orig c) 15 0 (orig_ne c) (fun r => mayWait_recv1 c _) 6 (sem_recv1 (orig c 6) (k0_off7_eq c 6)) (by exact cred_scat) ?_
  refine wait_step m K c 1 (orig c) 15 0 (orig_ne c) (fun r => mayWait_recv1 c _) 7 (sem_recv1 (orig c 7) (k0_off7_eq c 7)) (by exact cred_scat) ?_
  exact (h _).trans fupd_intro

theorem part14_spec (v w : BitVec 32) {R : sProp 𝕄} {Q : PUnit → sProp 𝕄}
    (h : iprop(env m K ∗ waitSt m c 1 (orig c) 15 0 11 ∗ R) ⊢ Q ⟨⟩) :
    iprop(env m K ∗ waitSt m c 1 (orig c) 15 0 8 ∗ R) ⊢ wp frame (wpE (defs₀ (F := F)) 𝒱₀ (c : Thread nD τ) none) Set.univ
      (k0_part14 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) v w) Q := by
  rw [k0_part14_eq_skeleton]; unfold k0_part14_skel
  simp only [semSignalWord, semWaitWord, Prog.lift, Prog.bind_op, Prog.bind_ret, Prog.pure_eq_ret, wp_deviceId]
  refine wait_step m K c 1 (orig c) 15 0 (orig_ne c) (fun r => mayWait_recv1 c _) 8 (sem_recv1 (orig c 8) (k0_off7_eq c 8)) (by exact cred_scat) ?_
  refine wait_step m K c 1 (orig c) 15 0 (orig_ne c) (fun r => mayWait_recv1 c _) 9 (sem_recv1 (orig c 9) (k0_off7_eq c 9)) (by exact cred_scat) ?_
  refine wait_step m K c 1 (orig c) 15 0 (orig_ne c) (fun r => mayWait_recv1 c _) 10 (sem_recv1 (orig c 10) (k0_off7_eq c 10)) (by exact cred_scat) ?_
  exact h.trans fupd_intro

theorem part15_spec {R : sProp 𝕄} {Q : PUnit → sProp 𝕄}
    (h : iprop(env m K ∗ waitSt m c 1 (orig c) 15 0 13 ∗ R) ⊢ Q ⟨⟩) :
    iprop(env m K ∗ waitSt m c 1 (orig c) 15 0 11 ∗ R) ⊢ wp frame (wpE (defs₀ (F := F)) 𝒱₀ (c : Thread nD τ) none) Set.univ
      (k0_part15 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part15_eq_skeleton]; unfold k0_part15_skel
  simp only [semSignalWord, semWaitWord, Prog.lift, Prog.bind_op, Prog.bind_ret, Prog.pure_eq_ret, wp_deviceId]
  refine wait_step m K c 1 (orig c) 15 0 (orig_ne c) (fun r => mayWait_recv1 c _) 11 (sem_recv1 (orig c 11) (k0_off7_eq c 11)) (by exact cred_scat) ?_
  refine wait_step m K c 1 (orig c) 15 0 (orig_ne c) (fun r => mayWait_recv1 c _) 12 (sem_recv1 (orig c 12) (k0_off7_eq c 12)) (by exact cred_scat) ?_
  exact h.trans fupd_intro

theorem part16_spec {R : sProp 𝕄} {Q : PUnit → sProp 𝕄}
    (h : iprop(env m K ∗ Ow c 15 15 0 ∗ (bigSep Finset.univ (fun r => semVal (xferCell c 1 (orig c r)) 0) ∗ pts c scatM fullShare (scatC m c) ∗ pts c redM fullShare (redC m c) ∗ pts c (slotM gathM c) fullShare (gathC m) ∗ R)) ⊢ Q ⟨⟩) :
    iprop(env m K ∗ waitSt m c 1 (orig c) 15 0 13 ∗ (pts c (slotM scatM c) fullShare (scatC m c) ∗ (∃ f, pts c redM fullShare f) ∗ (∃ f, pts c (slotM gathM c) fullShare f) ∗ R)) ⊢ wp frame (wpE (defs₀ (F := F)) 𝒱₀ (c : Thread nD τ) none) Set.univ
      (k0_part16 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part16_eq_skeleton]; unfold k0_part16_skel
  simp only [semSignalWord, semWaitWord, Prog.lift, Prog.bind_op, Prog.bind_ret, Prog.pure_eq_ret, wp_deviceId]
  refine wait_step m K c 1 (orig c) 15 0 (orig_ne c) (fun r => mayWait_recv1 c _) 13 (sem_recv1 (orig c 13) (k0_off7_eq c 13)) (by exact cred_scat) ?_
  refine wait_step m K c 1 (orig c) 15 0 (orig_ne c) (fun r => mayWait_recv1 c _) 14 (sem_recv1 (orig c 14) (k0_off7_eq c 14)) (by exact cred_scat) ?_
  iintro ⟨#He, HS, Hs, ⟨%fr, Hr⟩, ⟨%fg, Hg⟩, HR⟩
  ihave HW := (wait_done m c 1 (orig c) 15 0 ((14 : Fin 15).val + 1) rfl) $$ HS
  icases HW with ⟨Hpay, Hz, HO⟩
  ihave Hs := (scat_whole m c) $$ [Hs Hpay]
  · isplitl [Hs] <;> iassumption
  unfold pts
  iapply (wp_load 𝒱₀ (c : Thread nD τ) none Set.univ (m := scatM) (load_sub scatM _)) $$ Hs; iintro Hs
  iapply (wp_load 𝒱₀ (c : Thread nD τ) none Set.univ (m := redM) (load_sub redM _)) $$ Hr; iintro Hr
  iapply (wp_store 𝒱₀ (c : Thread nD τ) none Set.univ (m := redM) (r := Rect.unit (s := S32x512) ![0, 0] S32x512.size inb_S32x512_S32x512_0_0) (Mk := Finset.univ) (by rw [View.set_whole]; exact Finset.subset_univ _)) $$ Hr; iintro Hr
  iapply (wp_load 𝒱₀ (c : Thread nD τ) none Set.univ (m := gathM) (gath_sub c (k0_off6_eq c))) $$ Hg; iintro Hg
  iapply (wp_store 𝒱₀ (c : Thread nD τ) none Set.univ (m := gathM) (r := Rect.unit (s := S16x32x512) (k0_off6 c) S1x32x512.size (k0_off6_inb c)) (Mk := Finset.univ) (gath_sub' c (k0_off6_eq c))) $$ Hg; iintro Hg
  rw [scat_load, red_store]
  ihave Hg' := (Entails.of_eq (own2 m c (k0_off6_eq c) fg)) $$ [Hg]
  · unfold pts; iexact Hg
  rw [wp_ret]; imodintro
  iapply h
  isplitr; · iexact He
  isplitl [HO]; · iexact HO
  isplitl [Hz]; · iexact Hz
  unfold pts
  isplitl [Hs]; · iexact Hs
  isplitl [Hr]; · unfold redC; iexact Hr
  isplitl [Hg'] <;> iassumption

end Parts

end Cert.KernelIdealProof

end
-- ==== Proof.PartsDKernelIdeal.lean ====
/-
# The kernel's parts

What each part of the kernel's body takes and leaves: the steps and the memory operations in program order.
-/
module

public import proofs.«01_k».proof.Proof.MemKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-! ## The parts -/

section Parts
variable (c : Dev nD)

theorem part17_spec {R : sProp 𝕄} {Q : (BitVec 32) → sProp 𝕄}
    (h : ∀ w, iprop(env m K ∗ sendSt2 m c 4 ∗ R) ⊢ Q w) :
    iprop(env m K ∗ sendSt2 m c 0 ∗ R) ⊢ wp frame (wpE (defs₀ (F := F)) 𝒱₀ (c : Thread nD τ) none) Set.univ
      (k0_part17 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part17_eq_skeleton]; unfold k0_part17_skel
  simp only [semSignalWord, semWaitWord, Prog.lift, Prog.bind_op, Prog.bind_ret, Prog.pure_eq_ret, wp_deviceId]
  refine send2_step m K c _ 0 (Fin.ext (k0_dev31_eq c)) rfl (slot_eq gathM c (k0_off3_eq c)) (sem_send2 (peer c 0) (k0_off1_eq c 0)) (sem_recv2 c (k0_off2_eq c)) ?_
  refine send2_step m K c _ 1 (Fin.ext (k0_dev32_eq c)) rfl (slot_eq gathM c (k0_off3_eq c)) (sem_send2 (peer c 1) (k0_off1_eq c 1)) (sem_recv2 c (k0_off2_eq c)) ?_
  refine send2_step m K c _ 2 (Fin.ext (k0_dev33_eq c)) rfl (slot_eq gathM c (k0_off3_eq c)) (sem_send2 (peer c 2) (k0_off1_eq c 2)) (sem_recv2 c (k0_off2_eq c)) ?_
  refine send2_step m K c _ 3 (Fin.ext (k0_dev34_eq c)) rfl (slot_eq gathM c (k0_off3_eq c)) (sem_send2 (peer c 3) (k0_off1_eq c 3)) (sem_recv2 c (k0_off2_eq c)) ?_
  exact (h _).trans fupd_intro

theorem part18_spec (v : BitVec 32) {R : sProp 𝕄} {Q : PUnit → sProp 𝕄}
    (h : iprop(env m K ∗ sendSt2 m c 7 ∗ R) ⊢ Q ⟨⟩) :
    iprop(env m K ∗ sendSt2 m c 4 ∗ R) ⊢ wp frame (wpE (defs₀ (F := F)) 𝒱₀ (c : Thread nD τ) none) Set.univ
      (k0_part18 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) v) Q := by
  rw [k0_part18_eq_skeleton]; unfold k0_part18_skel
  simp only [semSignalWord, semWaitWord, Prog.lift, Prog.bind_op, Prog.bind_ret, Prog.pure_eq_ret, wp_deviceId]
  refine send2_step m K c _ 4 (Fin.ext (k0_dev35_eq c)) rfl (slot_eq gathM c (k0_off3_eq c)) (sem_send2 (peer c 4) (k0_off1_eq c 4)) (sem_recv2 c (k0_off2_eq c)) ?_
  refine send2_step m K c _ 5 (Fin.ext (k0_dev36_eq c)) rfl (slot_eq gathM c (k0_off3_eq c)) (sem_send2 (peer c 5) (k0_off1_eq c 5)) (sem_recv2 c (k0_off2_eq c)) ?_
  refine send2_step m K c _ 6 (Fin.ext (k0_dev37_eq c)) rfl (slot_eq gathM c (k0_off3_eq c)) (sem_send2 (peer c 6) (k0_off1_eq c 6)) (sem_recv2 c (k0_off2_eq c)) ?_
  exact h.trans fupd_intro

theorem part19_spec {R : sProp 𝕄} {Q : (Σ' (v610 : BitVec 32), BitVec 32) → sProp 𝕄}
    (h : ∀ w, iprop(env m K ∗ sendSt2 m c 11 ∗ R) ⊢ Q ⟨w, 0#32⟩) :
    iprop(env m K ∗ sendSt2 m c 7 ∗ R) ⊢ wp frame (wpE (defs₀ (F := F)) 𝒱₀ (c : Thread nD τ) none) Set.univ
      (k0_part19 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part19_eq_skeleton]; unfold k0_part19_skel
  simp only [semSignalWord, semWaitWord, Prog.lift, Prog.bind_op, Prog.bind_ret, Prog.pure_eq_ret, wp_deviceId]
  refine send2_step m K c _ 7 (Fin.ext (k0_dev38_eq c)) rfl (slot_eq gathM c (k0_off3_eq c)) (sem_send2 (peer c 7) (k0_off1_eq c 7)) (sem_recv2 c (k0_off2_eq c)) ?_
  refine send2_step m K c _ 8 (Fin.ext (k0_dev39_eq c)) rfl (slot_eq gathM c (k0_off3_eq c)) (sem_send2 (peer c 8) (k0_off1_eq c 8)) (sem_recv2 c (k0_off2_eq c)) ?_
  refine send2_step m K c _ 9 (Fin.ext (k0_dev40_eq c)) rfl (slot_eq gathM c (k0_off3_eq c)) (sem_send2 (peer c 9) (k0_off1_eq c 9)) (sem_recv2 c (k0_off2_eq c)) ?_
  refine send2_step m K c _ 10 (Fin.ext (k0_dev41_eq c)) rfl (slot_eq gathM c (k0_off3_eq c)) (sem_send2 (peer c 10) (k0_off1_eq c 10)) (sem_recv2 c (k0_off2_eq c)) ?_
  exact (h _).trans fupd_intro

theorem part20_spec (v w : BitVec 32) {R : sProp 𝕄} {Q : PUnit → sProp 𝕄}
    (h : iprop(env m K ∗ sendSt2 m c 14 ∗ R) ⊢ Q ⟨⟩) :
    iprop(env m K ∗ sendSt2 m c 11 ∗ R) ⊢ wp frame (wpE (defs₀ (F := F)) 𝒱₀ (c : Thread nD τ) none) Set.univ
      (k0_part20 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) v w) Q := by
  rw [k0_part20_eq_skeleton]; unfold k0_part20_skel
  simp only [semSignalWord, semWaitWord, Prog.lift, Prog.bind_op, Prog.bind_ret, Prog.pure_eq_ret, wp_deviceId]
  refine send2_step m K c _ 11 (Fin.ext (k0_dev42_eq c)) rfl (slot_eq gathM c (k0_off3_eq c)) (sem_send2 (peer c 11) (k0_off1_eq c 11)) (sem_recv2 c (k0_off2_eq c)) ?_
  refine send2_step m K c _ 12 (Fin.ext (k0_dev43_eq c)) rfl (slot_eq gathM c (k0_off3_eq c)) (sem_send2 (peer c 12) (k0_off1_eq c 12)) (sem_recv2 c (k0_off2_eq c)) ?_
  refine send2_step m K c _ 13 (Fin.ext (k0_dev44_eq c)) rfl (slot_eq gathM c (k0_off3_eq c)) (sem_send2 (peer c 13) (k0_off1_eq c 13)) (sem_recv2 c (k0_off2_eq c)) ?_
  exact h.trans fupd_intro

theorem part21_spec {R : sProp 𝕄} {Q : (Σ' (v676 : BitVec 32), BitVec 32) → sProp 𝕄}
    (h : ∀ w, iprop(env m K ∗ waitSt m c 3 (orig c) 15 15 3 ∗ (bigSep Finset.univ (sendB c 2) ∗ R)) ⊢ Q ⟨w, 16#32⟩) :
    iprop(env m K ∗ sendSt2 m c 14 ∗ (bigSep Finset.univ (waitA c 3 (orig c)) ∗ R)) ⊢ wp frame (wpE (defs₀ (F := F)) 𝒱₀ (c : Thread nD τ) none) Set.univ
      (k0_part21 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part21_eq_skeleton]; unfold k0_part21_skel
  simp only [semSignalWord, semWaitWord, Prog.lift, Prog.bind_op, Prog.bind_ret, Prog.pure_eq_ret, wp_deviceId]
  refine send2_step m K c _ 14 (Fin.ext (k0_dev45_eq c)) rfl (slot_eq gathM c (k0_off3_eq c)) (sem_send2 (peer c 14) (k0_off1_eq c 14)) (sem_recv2 c (k0_off2_eq c)) ?_
  refine BIBase.Entails.trans (Q := iprop(env m K ∗ waitSt m c 3 (orig c) 15 15 0 ∗ (bigSep Finset.univ (sendB c 2) ∗ R))) ?_ ?_
  · iintro ⟨#He, HS, HA, HR⟩
    ihave HS := (send2_done m c ((14 : Fin 15).val + 1) rfl) $$ HS
    icases HS with ⟨HB, HO⟩
    isplitr; · iexact He
    isplitl [HA HO]
    · iapply (wait_begin m c 3 (orig c) 15 15)
      isplitl [HA] <;> iassumption
    isplitl [HB] <;> iassumption
  refine wait_step m K c 3 (orig c) 15 15 (orig_ne c) (fun r => mayWait_end c _) 0 (sem_recv2 (orig c 0) (k0_off7_eq c 0)) (by exact cred_gath) ?_
  refine wait_step m K c 3 (orig c) 15 15 (orig_ne c) (fun r => mayWait_end c _) 1 (sem_recv2 (orig c 1) (k0_off7_eq c 1)) (by exact cred_gath) ?_
  refine wait_step m K c 3 (orig c) 15 15 (orig_ne c) (fun r => mayWait_end c _) 2 (sem_recv2 (orig c 2) (k0_off7_eq c 2)) (by exact cred_gath) ?_
  exact (h _).trans fupd_intro

end Parts

end Cert.KernelIdealProof

end
-- ==== Proof.PartsEKernelIdeal.lean ====
/-
# The kernel's parts

What each part of the kernel's body takes and leaves: the steps and the memory operations in program order.
-/
module

public import proofs.«01_k».proof.Proof.MemKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-! ## The parts -/

section Parts
variable (c : Dev nD)

theorem part22_spec (v w : BitVec 32) {R : sProp 𝕄} {Q : PUnit → sProp 𝕄}
    (h : iprop(env m K ∗ waitSt m c 3 (orig c) 15 15 6 ∗ R) ⊢ Q ⟨⟩) :
    iprop(env m K ∗ waitSt m c 3 (orig c) 15 15 3 ∗ R) ⊢ wp frame (wpE (defs₀ (F := F)) 𝒱₀ (c : Thread nD τ) none) Set.univ
      (k0_part22 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) v w) Q := by
  rw [k0_part22_eq_skeleton]; unfold k0_part22_skel
  simp only [semSignalWord, semWaitWord, Prog.lift, Prog.bind_op, Prog.bind_ret, Prog.pure_eq_ret, wp_deviceId]
  refine wait_step m K c 3 (orig c) 15 15 (orig_ne c) (fun r => mayWait_end c _) 3 (sem_recv2 (orig c 3) (k0_off7_eq c 3)) (by exact cred_gath) ?_
  refine wait_step m K c 3 (orig c) 15 15 (orig_ne c) (fun r => mayWait_end c _) 4 (sem_recv2 (orig c 4) (k0_off7_eq c 4)) (by exact cred_gath) ?_
  refine wait_step m K c 3 (orig c) 15 15 (orig_ne c) (fun r => mayWait_end c _) 5 (sem_recv2 (orig c 5) (k0_off7_eq c 5)) (by exact cred_gath) ?_
  exact h.trans fupd_intro

theorem part23_spec {R : sProp 𝕄} {Q : PUnit → sProp 𝕄}
    (h : iprop(env m K ∗ waitSt m c 3 (orig c) 15 15 9 ∗ R) ⊢ Q ⟨⟩) :
    iprop(env m K ∗ waitSt m c 3 (orig c) 15 15 6 ∗ R) ⊢ wp frame (wpE (defs₀ (F := F)) 𝒱₀ (c : Thread nD τ) none) Set.univ
      (k0_part23 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part23_eq_skeleton]; unfold k0_part23_skel
  simp only [semSignalWord, semWaitWord, Prog.lift, Prog.bind_op, Prog.bind_ret, Prog.pure_eq_ret, wp_deviceId]
  refine wait_step m K c 3 (orig c) 15 15 (orig_ne c) (fun r => mayWait_end c _) 6 (sem_recv2 (orig c 6) (k0_off7_eq c 6)) (by exact cred_gath) ?_
  refine wait_step m K c 3 (orig c) 15 15 (orig_ne c) (fun r => mayWait_end c _) 7 (sem_recv2 (orig c 7) (k0_off7_eq c 7)) (by exact cred_gath) ?_
  refine wait_step m K c 3 (orig c) 15 15 (orig_ne c) (fun r => mayWait_end c _) 8 (sem_recv2 (orig c 8) (k0_off7_eq c 8)) (by exact cred_gath) ?_
  exact h.trans fupd_intro

theorem part24_spec {R : sProp 𝕄} {Q : (Σ' (v766 : BitVec 32), BitVec 32) → sProp 𝕄}
    (h : ∀ w, iprop(env m K ∗ waitSt m c 3 (orig c) 15 15 13 ∗ R) ⊢ Q ⟨w, 16#32⟩) :
    iprop(env m K ∗ waitSt m c 3 (orig c) 15 15 9 ∗ R) ⊢ wp frame (wpE (defs₀ (F := F)) 𝒱₀ (c : Thread nD τ) none) Set.univ
      (k0_part24 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c)) Q := by
  rw [k0_part24_eq_skeleton]; unfold k0_part24_skel
  simp only [semSignalWord, semWaitWord, Prog.lift, Prog.bind_op, Prog.bind_ret, Prog.pure_eq_ret, wp_deviceId]
  refine wait_step m K c 3 (orig c) 15 15 (orig_ne c) (fun r => mayWait_end c _) 9 (sem_recv2 (orig c 9) (k0_off7_eq c 9)) (by exact cred_gath) ?_
  refine wait_step m K c 3 (orig c) 15 15 (orig_ne c) (fun r => mayWait_end c _) 10 (sem_recv2 (orig c 10) (k0_off7_eq c 10)) (by exact cred_gath) ?_
  refine wait_step m K c 3 (orig c) 15 15 (orig_ne c) (fun r => mayWait_end c _) 11 (sem_recv2 (orig c 11) (k0_off7_eq c 11)) (by exact cred_gath) ?_
  refine wait_step m K c 3 (orig c) 15 15 (orig_ne c) (fun r => mayWait_end c _) 12 (sem_recv2 (orig c 12) (k0_off7_eq c 12)) (by exact cred_gath) ?_
  exact (h _).trans fupd_intro

theorem part25_spec (v w : BitVec 32) {R : sProp 𝕄} {Q : PUnit → sProp 𝕄}
    (h : iprop(env m K ∗ waitSt m c 0 (peer c) 15 15 1 ∗ (bigSep Finset.univ (fun r => semVal (xferCell c 3 (orig c r)) 0) ∗ pts c gathM fullShare (gathC m) ∗ pts c oM fullShare (outC m) ∗ R)) ⊢ Q ⟨⟩) :
    iprop(env m K ∗ waitSt m c 3 (orig c) 15 15 13 ∗ (pts c (slotM gathM c) fullShare (gathC m) ∗ (∃ f, pts c oM fullShare f) ∗ bigSep Finset.univ (waitA c 0 (peer c)) ∗ R)) ⊢ wp frame (wpE (defs₀ (F := F)) 𝒱₀ (c : Thread nD τ) none) Set.univ
      (k0_part25 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c (place c) v w) Q := by
  rw [k0_part25_eq_skeleton]; unfold k0_part25_skel
  simp only [semSignalWord, semWaitWord, Prog.lift, Prog.bind_op, Prog.bind_ret, Prog.pure_eq_ret, wp_deviceId]
  refine wait_step m K c 3 (orig c) 15 15 (orig_ne c) (fun r => mayWait_end c _) 13 (sem_recv2 (orig c 13) (k0_off7_eq c 13)) (by exact cred_gath) ?_
  refine wait_step m K c 3 (orig c) 15 15 (orig_ne c) (fun r => mayWait_end c _) 14 (sem_recv2 (orig c 14) (k0_off7_eq c 14)) (by exact cred_gath) ?_
  iintro ⟨#He, HS, Hg, ⟨%fo, Ho⟩, HA, HR⟩
  ihave HW := (wait_done m c 3 (orig c) 15 15 ((14 : Fin 15).val + 1) rfl) $$ HS
  icases HW with ⟨Hpay, Hz, HO⟩
  ihave Hg := (gath_whole m c) $$ [Hg Hpay]
  · isplitl [Hg] <;> iassumption
  unfold pts
  iapply (wp_load 𝒱₀ (c : Thread nD τ) none Set.univ (m := gathM) (load_sub gathM _)) $$ Hg; iintro Hg
  iapply (wp_load 𝒱₀ (c : Thread nD τ) none Set.univ (m := oM) (load_sub oM _)) $$ Ho; iintro Ho
  iapply (wp_store 𝒱₀ (c : Thread nD τ) none Set.univ (m := oM) (r := Rect.unit (s := S512x512) ![0, 0] S512x512.size inb_S512x512_S512x512_0_0) (Mk := Finset.univ) (by rw [View.set_whole]; exact Finset.subset_univ _)) $$ Ho; iintro Ho
  rw [gath_load, out_store]
  iapply (wait_step m K c 0 (peer c) 15 15 (peer_ne c) (fun r => mayWait_end c _) 0 (sem_send1 (peer c 0) (k0_off1_eq c 0)) (by exact cred_chunk) (h.trans fupd_intro))
  isplitr; · iexact He
  isplitl [HA HO]
  · iapply (wait_begin m c 0 (peer c) 15 15)
    isplitl [HA] <;> iassumption
  isplitl [Hz]; · iexact Hz
  unfold pts
  isplitl [Hg]; · iexact Hg
  isplitl [Ho]; · unfold outC; iexact Ho
  iexact HR

end Parts

end Cert.KernelIdealProof

end
-- ==== Proof.PartsFKernelIdeal.lean ====
/-
# The kernel's parts

What each part of the kernel's body takes and leaves: the steps and the memory operations in program order.
-/
module

public import proofs.«01_k».proof.Proof.MemKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-! ## The parts -/

section Parts
variable (c : Dev nD)

theorem part26_spec {R : sProp 𝕄} {Q : PUnit → sProp 𝕄}
    (h : iprop(env m K ∗ waitSt m c 0 (peer c) 15 15 7 ∗ R) ⊢ Q ⟨⟩) :
    iprop(env m K ∗ waitSt m c 0 (peer c) 15 15 1 ∗ R) ⊢ wp frame (wpE (defs₀ (F := F)) 𝒱₀ (c : Thread nD τ) none) Set.univ
      (k0_part26 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c) Q := by
  rw [k0_part26_eq_skeleton]; unfold k0_part26_skel
  simp only [semSignalWord, semWaitWord, Prog.lift, Prog.bind_op, Prog.bind_ret, Prog.pure_eq_ret, wp_deviceId]
  refine wait_step m K c 0 (peer c) 15 15 (peer_ne c) (fun r => mayWait_end c _) 1 (sem_send1 (peer c 1) (k0_off1_eq c 1)) (by exact cred_chunk) ?_
  refine wait_step m K c 0 (peer c) 15 15 (peer_ne c) (fun r => mayWait_end c _) 2 (sem_send1 (peer c 2) (k0_off1_eq c 2)) (by exact cred_chunk) ?_
  refine wait_step m K c 0 (peer c) 15 15 (peer_ne c) (fun r => mayWait_end c _) 3 (sem_send1 (peer c 3) (k0_off1_eq c 3)) (by exact cred_chunk) ?_
  refine wait_step m K c 0 (peer c) 15 15 (peer_ne c) (fun r => mayWait_end c _) 4 (sem_send1 (peer c 4) (k0_off1_eq c 4)) (by exact cred_chunk) ?_
  refine wait_step m K c 0 (peer c) 15 15 (peer_ne c) (fun r => mayWait_end c _) 5 (sem_send1 (peer c 5) (k0_off1_eq c 5)) (by exact cred_chunk) ?_
  refine wait_step m K c 0 (peer c) 15 15 (peer_ne c) (fun r => mayWait_end c _) 6 (sem_send1 (peer c 6) (k0_off1_eq c 6)) (by exact cred_chunk) ?_
  exact h.trans fupd_intro

theorem part27_spec {R : sProp 𝕄} {Q : PUnit → sProp 𝕄}
    (h : iprop(env m K ∗ waitSt m c 0 (peer c) 15 15 13 ∗ R) ⊢ Q ⟨⟩) :
    iprop(env m K ∗ waitSt m c 0 (peer c) 15 15 7 ∗ R) ⊢ wp frame (wpE (defs₀ (F := F)) 𝒱₀ (c : Thread nD τ) none) Set.univ
      (k0_part27 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c) Q := by
  rw [k0_part27_eq_skeleton]; unfold k0_part27_skel
  simp only [semSignalWord, semWaitWord, Prog.lift, Prog.bind_op, Prog.bind_ret, Prog.pure_eq_ret, wp_deviceId]
  refine wait_step m K c 0 (peer c) 15 15 (peer_ne c) (fun r => mayWait_end c _) 7 (sem_send1 (peer c 7) (k0_off1_eq c 7)) (by exact cred_chunk) ?_
  refine wait_step m K c 0 (peer c) 15 15 (peer_ne c) (fun r => mayWait_end c _) 8 (sem_send1 (peer c 8) (k0_off1_eq c 8)) (by exact cred_chunk) ?_
  refine wait_step m K c 0 (peer c) 15 15 (peer_ne c) (fun r => mayWait_end c _) 9 (sem_send1 (peer c 9) (k0_off1_eq c 9)) (by exact cred_chunk) ?_
  refine wait_step m K c 0 (peer c) 15 15 (peer_ne c) (fun r => mayWait_end c _) 10 (sem_send1 (peer c 10) (k0_off1_eq c 10)) (by exact cred_chunk) ?_
  refine wait_step m K c 0 (peer c) 15 15 (peer_ne c) (fun r => mayWait_end c _) 11 (sem_send1 (peer c 11) (k0_off1_eq c 11)) (by exact cred_chunk) ?_
  refine wait_step m K c 0 (peer c) 15 15 (peer_ne c) (fun r => mayWait_end c _) 12 (sem_send1 (peer c 12) (k0_off1_eq c 12)) (by exact cred_chunk) ?_
  exact h.trans fupd_intro

theorem part28_spec {R : sProp 𝕄} {Q : PUnit → sProp 𝕄}
    (h : iprop(env m K ∗ waitSt m c 2 (peer c) 15 15 6 ∗ (bigSep Finset.univ (fun r => xferPay m c (0 : Fin 4).val (peer c r)) ∗ bigSep Finset.univ (fun r => semVal (xferCell c 0 (peer c r)) 0) ∗ R)) ⊢ Q ⟨⟩) :
    iprop(env m K ∗ waitSt m c 0 (peer c) 15 15 13 ∗ (bigSep Finset.univ (waitA c 2 (peer c)) ∗ R)) ⊢ wp frame (wpE (defs₀ (F := F)) 𝒱₀ (c : Thread nD τ) none) Set.univ
      (k0_part28 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c) Q := by
  rw [k0_part28_eq_skeleton]; unfold k0_part28_skel
  simp only [semSignalWord, semWaitWord, Prog.lift, Prog.bind_op, Prog.bind_ret, Prog.pure_eq_ret, wp_deviceId]
  refine wait_step m K c 0 (peer c) 15 15 (peer_ne c) (fun r => mayWait_end c _) 13 (sem_send1 (peer c 13) (k0_off1_eq c 13)) (by exact cred_chunk) ?_
  refine wait_step m K c 0 (peer c) 15 15 (peer_ne c) (fun r => mayWait_end c _) 14 (sem_send1 (peer c 14) (k0_off1_eq c 14)) (by exact cred_chunk) ?_
  refine BIBase.Entails.trans (Q := iprop(env m K ∗ waitSt m c 2 (peer c) 15 15 0 ∗ (bigSep Finset.univ (fun r => xferPay m c (0 : Fin 4).val (peer c r)) ∗ bigSep Finset.univ (fun r => semVal (xferCell c 0 (peer c r)) 0) ∗ R))) ?_ ?_
  · iintro ⟨#He, HS, HA, HR⟩
    ihave HS := (wait_done m c 0 (peer c) 15 15 ((14 : Fin 15).val + 1) rfl) $$ HS
    icases HS with ⟨HB, HZ, HO⟩
    isplitr; · iexact He
    isplitl [HA HO]
    · iapply (wait_begin m c 2 (peer c) 15 15)
      isplitl [HA] <;> iassumption
    isplitl [HB]; · iexact HB
    isplitl [HZ] <;> iassumption
  refine wait_step m K c 2 (peer c) 15 15 (peer_ne c) (fun r => mayWait_end c _) 0 (sem_send2 (peer c 0) (k0_off1_eq c 0)) (by exact credit_red) ?_
  refine wait_step m K c 2 (peer c) 15 15 (peer_ne c) (fun r => mayWait_end c _) 1 (sem_send2 (peer c 1) (k0_off1_eq c 1)) (by exact credit_red) ?_
  refine wait_step m K c 2 (peer c) 15 15 (peer_ne c) (fun r => mayWait_end c _) 2 (sem_send2 (peer c 2) (k0_off1_eq c 2)) (by exact credit_red) ?_
  refine wait_step m K c 2 (peer c) 15 15 (peer_ne c) (fun r => mayWait_end c _) 3 (sem_send2 (peer c 3) (k0_off1_eq c 3)) (by exact credit_red) ?_
  refine wait_step m K c 2 (peer c) 15 15 (peer_ne c) (fun r => mayWait_end c _) 4 (sem_send2 (peer c 4) (k0_off1_eq c 4)) (by exact credit_red) ?_
  refine wait_step m K c 2 (peer c) 15 15 (peer_ne c) (fun r => mayWait_end c _) 5 (sem_send2 (peer c 5) (k0_off1_eq c 5)) (by exact credit_red) ?_
  exact h.trans fupd_intro

theorem part29_spec {R : sProp 𝕄} {Q : PUnit → sProp 𝕄}
    (h : iprop(env m K ∗ waitSt m c 2 (peer c) 15 15 13 ∗ R) ⊢ Q ⟨⟩) :
    iprop(env m K ∗ waitSt m c 2 (peer c) 15 15 6 ∗ R) ⊢ wp frame (wpE (defs₀ (F := F)) 𝒱₀ (c : Thread nD τ) none) Set.univ
      (k0_part29 xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7 c) Q := by
  rw [k0_part29_eq_skeleton]; unfold k0_part29_skel
  simp only [semSignalWord, semWaitWord, Prog.lift, Prog.bind_op, Prog.bind_ret, Prog.pure_eq_ret, wp_deviceId]
  refine wait_step m K c 2 (peer c) 15 15 (peer_ne c) (fun r => mayWait_end c _) 6 (sem_send2 (peer c 6) (k0_off1_eq c 6)) (by exact credit_red) ?_
  refine wait_step m K c 2 (peer c) 15 15 (peer_ne c) (fun r => mayWait_end c _) 7 (sem_send2 (peer c 7) (k0_off1_eq c 7)) (by exact credit_red) ?_
  refine wait_step m K c 2 (peer c) 15 15 (peer_ne c) (fun r => mayWait_end c _) 8 (sem_send2 (peer c 8) (k0_off1_eq c 8)) (by exact credit_red) ?_
  refine wait_step m K c 2 (peer c) 15 15 (peer_ne c) (fun r => mayWait_end c _) 9 (sem_send2 (peer c 9) (k0_off1_eq c 9)) (by exact credit_red) ?_
  refine wait_step m K c 2 (peer c) 15 15 (peer_ne c) (fun r => mayWait_end c _) 10 (sem_send2 (peer c 10) (k0_off1_eq c 10)) (by exact credit_red) ?_
  refine wait_step m K c 2 (peer c) 15 15 (peer_ne c) (fun r => mayWait_end c _) 11 (sem_send2 (peer c 11) (k0_off1_eq c 11)) (by exact credit_red) ?_
  refine wait_step m K c 2 (peer c) 15 15 (peer_ne c) (fun r => mayWait_end c _) 12 (sem_send2 (peer c 12) (k0_off1_eq c 12)) (by exact credit_red) ?_
  exact h.trans fupd_intro

end Parts

end Cert.KernelIdealProof

end
-- ==== Proof.BodyKernelIdeal.lean ====
/-
# The kernel's body

The parts in a row, from what a device starts with to what it ends with.
-/
module

public import proofs.«01_k».proof.Proof.PartsAKernelIdeal
public import proofs.«01_k».proof.Proof.PartsBKernelIdeal
public import proofs.«01_k».proof.Proof.PartsCKernelIdeal
public import proofs.«01_k».proof.Proof.PartsDKernelIdeal
public import proofs.«01_k».proof.Proof.PartsEKernelIdeal
public import proofs.«01_k».proof.Proof.PartsFKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-! ## What a device starts with -/

/-- Its positions, and the tokens of the duties it pays. -/
def ghost (c : Dev nD) : sProp 𝕄 :=
  iprop(atPos ER (barCell c) 0 ∅ 0
    ∗ (bigSep Finset.univ fun k : Fin 4 => bigSep Finset.univ fun i : Fin 16 => atPos ER (xferCell c k i) 0 ∅ 0)
    ∗ (bigSep Finset.univ fun r => dutyTok ER (barCell (peer c r)) 0 (opp r))
    ∗ (bigSep Finset.univ fun r => dutyTok ER (xferCell c 0 (peer c r)) 0 0)
    ∗ (bigSep Finset.univ fun r => dutyTok ER (xferCell (peer c r) 1 c) 0 0)
    ∗ (bigSep Finset.univ fun r => dutyTok ER (xferCell c 2 (peer c r)) 0 0)
    ∗ (bigSep Finset.univ fun r => dutyTok ER (xferCell (peer c r) 3 c) 0 0))

/-- The credits of what the other devices owe it. -/
def credits (c : Dev nD) : sProp 𝕄 :=
  iprop(cred (tallyAt (barCell c) () 15)
    ∗ (bigSep Finset.univ fun r => cred (tallyAt (xferCell c 1 (orig c r)) () N))
    ∗ (bigSep Finset.univ fun r => cred (tallyAt (xferCell c 3 (orig c r)) () N)))

/-- The four scratch buffers, holding anything. -/
def scr (c : Dev nD) : sProp 𝕄 :=
  iprop((∃ f, pts c partM fullShare f) ∗ (∃ f, pts c scatM fullShare f) ∗ (∃ f, pts c redM fullShare f) ∗ (∃ f, pts c gathM fullShare f))

/-- The counters of its sixty-four transfer semaphores, at zero. -/
def zeros (c : Dev nD) : sProp 𝕄 := bigSep Finset.univ fun k : Fin 4 => bigSep Finset.univ fun i : Fin 16 => semVal (xferCell c k i) 0

/-- Its staged arguments. -/
def ins (c : Dev nD) : sProp 𝕄 :=
  iprop(pts c xM fullShare (xstg0 m c) ∗ pts c rwM fullShare (xstg1 m c) ∗ pts c ixM fullShare (xstg2 m c) ∗ pts c wM fullShare (xstg3 m c))

theorem bigSep_fin4 {M : Type*} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- Four families of sixteen, each as the device's own member and the others'. -/
theorem bigSep_cells {M : Type*} [URA M] (c : Dev nD) (Φ : Fin 4 → Fin 16 → sProp M) :
    (bigSep Finset.univ fun k : Fin 4 => bigSep Finset.univ fun i : Fin 16 => Φ k i)
      = iprop((Φ 0 c ∗ bigSep Finset.univ fun r => Φ 0 (peer c r)) ∗ (Φ 1 c ∗ bigSep Finset.univ fun r => Φ 1 (orig c r))
        ∗ (Φ 2 c ∗ bigSep Finset.univ fun r => Φ 2 (peer c r)) ∗ (Φ 3 c ∗ bigSep Finset.univ fun r => Φ 3 (orig c r))) := by
  rw [bigSep_fin4, bigSep_dev c (Φ 0), bigSep_dev c (Φ 1), bigSep_dev c (Φ 2), bigSep_dev c (Φ 3), bigSep_orig c (Φ 1), bigSep_orig c (Φ 3)]

theorem scat_open (c : Dev nD) :
    iprop(∃ f, pts (F := F) c scatM fullShare f)
      ⊢ iprop((∃ f, pts c (slotM scatM c) fullShare f) ∗ bigSep Finset.univ fun r => iprop(∃ f, pts c (slotM scatM (peer c r)) fullShare f)) := by
  iintro ⟨%f, H⟩
  ihave H := (Entails.of_eq ((scat_split c f).trans (bigSep_dev c _))) $$ H
  icases H with ⟨H1, H2⟩
  isplitl [H1]
  · iexists f; iexact H1
  iapply (show (bigSep Finset.univ fun r : Fin 15 => pts c (slotM scatM (peer c r)) fullShare f)
      ⊢ bigSep Finset.univ fun r => iprop(∃ g, pts c (slotM scatM (peer c r)) fullShare g) from
    bigSep_mono fun r _ => exists_intro (Φ := fun g => pts c (slotM scatM (peer c r)) fullShare g) f)
  iexact H2
theorem gath_open (c : Dev nD) :
    iprop(∃ f, pts (F := F) c gathM fullShare f)
      ⊢ iprop((∃ f, pts c (slotM gathM c) fullShare f) ∗ bigSep Finset.univ fun r => iprop(∃ f, pts c (slotM gathM (peer c r)) fullShare f)) := by
  iintro ⟨%f, H⟩
  ihave H := (Entails.of_eq ((gath_split c f).trans (bigSep_dev c _))) $$ H
  icases H with ⟨H1, H2⟩
  isplitl [H1]
  · iexists f; iexact H1
  iapply (show (bigSep Finset.univ fun r : Fin 15 => pts c (slotM gathM (peer c r)) fullShare f)
      ⊢ bigSep Finset.univ fun r => iprop(∃ g, pts c (slotM gathM (peer c r)) fullShare g) from
    bigSep_mono fun r _ => exists_intro (Φ := fun g => pts c (slotM gathM (peer c r)) fullShare g) f)
  iexact H2

theorem part_open (c : Dev nD) :
    pts c partM fullShare (partC m c) ⊢ iprop(pts c (chunkM c) fullShare (partC m c) ∗ bigSep Finset.univ fun r => pts c (chunkM (peer c r)) fullShare (partC m c)) :=
  Entails.of_eq ((part_split c _).trans (bigSep_dev c _))
theorem part_close (c : Dev nD) :
    iprop(pts c (chunkM c) fullShare (partC m c) ∗ bigSep Finset.univ fun r => xferPay m c (0 : Fin 4).val (peer c r)) ⊢ pts c partM fullShare (partC m c) := by
  rw [part_split, bigSep_dev c]
  exact Entails.of_eq rfl
theorem red_open (c : Dev nD) :
    pts c redM fullShare (redC m c) ⊢ iprop((pts c redM (Transfers.shareDrop fullShare 16) (redC m c) ∗ pts c redM (Transfers.shareTok fullShare 16 c) (redC m c))
      ∗ bigSep Finset.univ fun r => pts c redM (Transfers.shareTok fullShare 16 (peer c r)) (redC m c)) := by
  refine (red_split c (redC m c)).1.trans ?_
  rw [bigSep_dev c (fun t : Fin 16 => pts c redM (Transfers.shareTok fullShare 16 t) (redC m c))]
  iintro ⟨H1, H2, H3⟩
  iframe
theorem red_close (c : Dev nD) :
    iprop((pts c redM (Transfers.shareDrop fullShare 16) (redC m c) ∗ pts c redM (Transfers.shareTok fullShare 16 c) (redC m c))
      ∗ bigSep Finset.univ fun r => xferPay m c (2 : Fin 4).val (peer c r)) ⊢ pts c redM fullShare (redC m c) := by
  refine BIBase.Entails.trans ?_ (red_split c (redC m c)).2
  rw [bigSep_dev c (fun t : Fin 16 => pts c redM (Transfers.shareTok fullShare 16 t) (redC m c))]
  iintro ⟨⟨H1, H2⟩, H3⟩
  isplitl [H1]; · iexact H1
  isplitl [H2]; · iexact H2
  iexact H3

/-! ## The phases' beginnings -/

theorem sig_begin (c : Dev nD) :
    iprop((bigSep Finset.univ fun r => dutyTok ER (barCell (peer c r)) 0 (opp r))
      ∗ (bigSep Finset.univ fun r => iprop(∃ f, pts (F := F) c (slotM scatM (peer c r)) fullShare f))
      ∗ (bigSep Finset.univ fun r => iprop(∃ f, pts c (slotM gathM (peer c r)) fullShare f)) ∗ Ow c 0 0 0) ⊢ sigSt c 0 := by
  unfold sigSt; rw [mix_zero]; unfold sigA; rw [bigSep_sep', bigSep_sep']
  iintro ⟨H1, H2, H3, H4⟩
  isplitr [H4]
  · isplitl [H1]; · iexact H1
    isplitl [H2] <;> iassumption
  iexact H4

theorem bar_done (c : Dev nD) :
    barSt₁ (F := F) c ⊢ iprop((bigSep Finset.univ fun r => iprop(∃ f, pts (peer c r) (slotM scatM c) fullShare f))
      ∗ (bigSep Finset.univ fun r => iprop(∃ f, pts (peer c r) (slotM gathM c) fullShare f)) ∗ semVal (barCell c) 0 ∗ Ow c 15 0 0) := by
  unfold barSt₁ barPay; rw [bigSep_sep']
  iintro ⟨⟨H1, H2⟩, H3, H4⟩
  isplitl [H1]; · iexact H1
  isplitl [H2]; · iexact H2
  isplitl [H3] <;> iassumption

theorem send1_begin (c : Dev nD) :
    iprop((bigSep Finset.univ fun r => dutyTok ER (xferCell c 0 (peer c r)) 0 0)
      ∗ (bigSep Finset.univ fun r => dutyTok ER (xferCell (peer c r) 1 c) 0 0)
      ∗ (bigSep Finset.univ fun r => pts c (chunkM (peer c r)) fullShare (partC m c))
      ∗ (bigSep Finset.univ fun r => iprop(∃ f, pts (peer c r) (slotM scatM c) fullShare f)) ∗ Ow c 15 0 0) ⊢ sendSt1 m c 0 := by
  unfold sendSt1; rw [mix_zero]; unfold sendA1; rw [bigSep_sep', bigSep_sep', bigSep_sep']
  iintro ⟨H1, H2, H3, H4, H5⟩
  isplitr [H5]
  · isplitl [H1]; · iexact H1
    isplitl [H2]; · iexact H2
    isplitl [H3] <;> iassumption
  iexact H5
theorem send2_begin (c : Dev nD) :
    iprop((bigSep Finset.univ fun r => dutyTok ER (xferCell c 2 (peer c r)) 0 0)
      ∗ (bigSep Finset.univ fun r => dutyTok ER (xferCell (peer c r) 3 c) 0 0)
      ∗ (bigSep Finset.univ fun r => pts c redM (Transfers.shareTok fullShare 16 (peer c r)) (redC m c))
      ∗ (bigSep Finset.univ fun r => iprop(∃ f, pts (peer c r) (slotM gathM c) fullShare f)) ∗ Ow c 15 15 0) ⊢ sendSt2 m c 0 := by
  unfold sendSt2; rw [mix_zero]; unfold sendA2; rw [bigSep_sep', bigSep_sep', bigSep_sep']
  iintro ⟨H1, H2, H3, H4, H5⟩
  isplitr [H5]
  · isplitl [H1]; · iexact H1
    isplitl [H2]; · iexact H2
    isplitl [H3] <;> iassumption
  iexact H5
/-- What a wait needs, over all the fifteen. -/
theorem waitA_all (c : Dev nD) (k : Fin 4) (idx : Fin 15 → Fin 16) :
    iprop((bigSep Finset.univ fun r => cred (tallyAt (xferCell c k (idx r)) () N)) ∗ bigSep Finset.univ fun r => atPos ER (xferCell c k (idx r)) 0 ∅ 0)
      ⊢ bigSep Finset.univ (waitA (F := F) c k idx) := by
  unfold waitA; rw [bigSep_sep']

/-! ## The body -/

/-- What the body leaves. -/
def leaves (c : Dev nD) : sProp 𝕄 :=
  iprop(scr c ∗ zeros c ∗ semVal (barCell c) 0 ∗ Ow c 15 15 15 ∗ ins m c ∗ pts c oM fullShare (outC m))

theorem leaves_intro (c : Dev nD) :
    iprop((bigSep Finset.univ fun k : Fin 4 => semVal (xferCell c k c) 0)
      ∗ (bigSep Finset.univ fun r => semVal (xferCell c 0 (peer c r)) 0) ∗ (bigSep Finset.univ fun r => semVal (xferCell c 1 (orig c r)) 0)
      ∗ (bigSep Finset.univ fun r => semVal (xferCell c 2 (peer c r)) 0) ∗ (bigSep Finset.univ fun r => semVal (xferCell c 3 (orig c r)) 0)
      ∗ pts c partM fullShare (partC m c) ∗ pts c scatM fullShare (scatC m c) ∗ pts c redM fullShare (redC m c) ∗ pts c gathM fullShare (gathC m)
      ∗ semVal (barCell c) 0 ∗ Ow c 15 15 15
      ∗ pts c xM fullShare (xstg0 m c) ∗ pts c rwM fullShare (xstg1 m c) ∗ pts c ixM fullShare (xstg2 m c) ∗ pts c wM fullShare (xstg3 m c)
      ∗ pts c oM fullShare (outC m)) ⊢ leaves m c := by
  unfold leaves scr zeros ins
  rw [bigSep_cells c (fun k i => semVal (xferCell c k i) 0), bigSep_fin4 (fun k => semVal (xferCell c k c) 0)]
  iintro ⟨⟨Z0, Z1, Z2, Z3⟩, Hz0, Hz1, Hz2, Hz3, Hpart, Hsc, Hrf, Hgf, Hzb, HO, Hpx, Hpr, Hpi, Hpw, Hof⟩
  isplitl [Hpart Hsc Hrf Hgf]
  · isplitl [Hpart]; · iexists _; iexact Hpart
    isplitl [Hsc]; · iexists _; iexact Hsc
    isplitl [Hrf]; · iexists _; iexact Hrf
    iexists _; iexact Hgf
  iframe

set_option maxHeartbeats 1600000 in
/-- The body from what a device starts with to what it leaves. -/
theorem body_run (c : Dev nD) (Kt : PUnit → sProp 𝕄) :
    iprop(env m K ∗ ghost c ∗ credits c ∗ scr c ∗ Ow c 0 0 0 ∗ ins m c ∗ (∃ f, pts c oM fullShare f) ∗ (leaves m c -∗ Kt ⟨⟩))
      ⊢ wp frame (wpE (defs₀ (F := F)) 𝒱₀ (c : Thread nD τ) none) Set.univ
        (cc0_body xM (Memref.isWhole_whole _) rwM (Memref.isWhole_whole _) ixM (Memref.isWhole_whole _) wM (Memref.isWhole_whole _) oM (Memref.isWhole_whole _) partM (Memref.isWhole_whole _) scatM (Memref.isWhole_whole _) redM (Memref.isWhole_whole _) gathM (Memref.isWhole_whole _) cc0_scratch4 cc0_scratch5 cc0_scratch6 cc0_scratch7) Kt := by
  rw [cc0_body_eq_skeleton]; unfold cc0_body_skel
  refine BIBase.Entails.trans (Q := iprop(env m K ∗ sigSt c 0 ∗ pts c xM fullShare (xstg0 m c) ∗ pts c rwM fullShare (xstg1 m c) ∗ pts c ixM fullShare (xstg2 m c) ∗ pts c wM fullShare (xstg3 m c) ∗ (∃ f, pts c partM fullShare f) ∗ (∃ f, pts c redM fullShare f) ∗ (∃ f, pts c oM fullShare f) ∗ (∃ f, pts c (slotM scatM c) fullShare f) ∗ (∃ f, pts c (slotM gathM c) fullShare f) ∗ cred (tallyAt (barCell c) () 15) ∗ atPos ER (barCell c) 0 ∅ 0 ∗ (bigSep Finset.univ fun r => dutyTok ER (xferCell c 0 (peer c r)) 0 0) ∗ (bigSep Finset.univ fun r => dutyTok ER (xferCell (peer c r) 1 c) 0 0) ∗ (bigSep Finset.univ fun r => dutyTok ER (xferCell c 2 (peer c r)) 0 0) ∗ (bigSep Finset.univ fun r => dutyTok ER (xferCell (peer c r) 3 c) 0 0) ∗ (bigSep Finset.univ fun r => atPos ER (xferCell c 0 (peer c r)) 0 ∅ 0) ∗ (bigSep Finset.univ fun r => atPos ER (xferCell c 1 (orig c r)) 0 ∅ 0) ∗ (bigSep Finset.univ fun r => atPos ER (xferCell c 2 (peer c r)) 0 ∅ 0) ∗ (bigSep Finset.univ fun r => atPos ER (xferCell c 3 (orig c r)) 0 ∅ 0) ∗ (bigSep Finset.univ fun r => cred (tallyAt (xferCell c 1 (orig c r)) () N)) ∗ (bigSep Finset.univ fun r => cred (tallyAt (xferCell c 3 (orig c r)) () N)) ∗ (bigSep Finset.univ fun k : Fin 4 => atPos ER (xferCell c k c) 0 ∅ 0) ∗ (leaves m c -∗ Kt ⟨⟩))) ?_ ?_
  · unfold ghost credits scr ins
    rw [bigSep_cells c (fun k i => atPos ER (xferCell c k i) 0 ∅ 0), bigSep_fin4 (fun k => atPos ER (xferCell c k c) 0 ∅ 0)]
    iintro ⟨#He, ⟨Hab, ⟨⟨S0, Ha0⟩, ⟨S1, Ha1⟩, ⟨S2, Ha2⟩, ⟨S3, Ha3⟩⟩, Htb, Hk0, Hk1, Hk2, Hk3⟩, ⟨Hcb, Hc1, Hc3⟩, ⟨Hpart, Hsc, Hred, Hga⟩, HO, ⟨Hpx, Hpr, Hpi, Hpw⟩, Hout, Hkk⟩
    ihave Hsc := (scat_open c) $$ Hsc
    icases Hsc with ⟨Hso, Hsp⟩
    ihave Hga := (gath_open c) $$ Hga
    icases Hga with ⟨Hgo, Hgp⟩
    ihave HS := (sig_begin c) $$ [Htb Hsp Hgp HO]
    · isplitl [Htb]; · iexact Htb
      isplitl [Hsp]; · iexact Hsp
      isplitl [Hgp] <;> iassumption
    iframe
    iframe #
  rw [wp_bind]; refine part1_spec m K c (fun w1 => ?_); try dsimp only
  rw [wp_bind]; refine part2_spec m K c _ _ (fun w2 => ?_); try dsimp only
  rw [wp_bind]; refine part3_spec m K c _ _ (R := iprop(pts c ixM fullShare (xstg2 m c) ∗ pts c wM fullShare (xstg3 m c) ∗ (∃ f, pts c partM fullShare f) ∗ (∃ f, pts c redM fullShare f) ∗ (∃ f, pts c oM fullShare f) ∗ (∃ f, pts c (slotM scatM c) fullShare f) ∗ (∃ f, pts c (slotM gathM c) fullShare f) ∗ cred (tallyAt (barCell c) () 15) ∗ atPos ER (barCell c) 0 ∅ 0 ∗ (bigSep Finset.univ fun r => dutyTok ER (xferCell c 0 (peer c r)) 0 0) ∗ (bigSep Finset.univ fun r => dutyTok ER (xferCell (peer c r) 1 c) 0 0) ∗ (bigSep Finset.univ fun r => dutyTok ER (xferCell c 2 (peer c r)) 0 0) ∗ (bigSep Finset.univ fun r => dutyTok ER (xferCell (peer c r) 3 c) 0 0) ∗ (bigSep Finset.univ fun r => atPos ER (xferCell c 0 (peer c r)) 0 ∅ 0) ∗ (bigSep Finset.univ fun r => atPos ER (xferCell c 1 (orig c r)) 0 ∅ 0) ∗ (bigSep Finset.univ fun r => atPos ER (xferCell c 2 (peer c r)) 0 ∅ 0) ∗ (bigSep Finset.univ fun r => atPos ER (xferCell c 3 (orig c r)) 0 ∅ 0) ∗ (bigSep Finset.univ fun r => cred (tallyAt (xferCell c 1 (orig c r)) () N)) ∗ (bigSep Finset.univ fun r => cred (tallyAt (xferCell c 3 (orig c r)) () N)) ∗ (bigSep Finset.univ fun k : Fin 4 => atPos ER (xferCell c k c) 0 ∅ 0) ∗ (leaves m c -∗ Kt ⟨⟩))) ?_; try dsimp only
  rw [wp_bind]; refine BIBase.Entails.trans ?_ (part4_spec m c (R := iprop(env m K ∗ sigSt c 15 ∗ pts c xM fullShare (xstg0 m c) ∗ pts c rwM fullShare (xstg1 m c) ∗ (∃ f, pts c partM fullShare f) ∗ (∃ f, pts c redM fullShare f) ∗ (∃ f, pts c oM fullShare f) ∗ (∃ f, pts c (slotM scatM c) fullShare f) ∗ (∃ f, pts c (slotM gathM c) fullShare f) ∗ cred (tallyAt (barCell c) () 15) ∗ atPos ER (barCell c) 0 ∅ 0 ∗ (bigSep Finset.univ fun r => dutyTok ER (xferCell c 0 (peer c r)) 0 0) ∗ (bigSep Finset.univ fun r => dutyTok ER (xferCell (peer c r) 1 c) 0 0) ∗ (bigSep Finset.univ fun r => dutyTok ER (xferCell c 2 (peer c r)) 0 0) ∗ (bigSep Finset.univ fun r => dutyTok ER (xferCell (peer c r) 3 c) 0 0) ∗ (bigSep Finset.univ fun r => atPos ER (xferCell c 0 (peer c r)) 0 ∅ 0) ∗ (bigSep Finset.univ fun r => atPos ER (xferCell c 1 (orig c r)) 0 ∅ 0) ∗ (bigSep Finset.univ fun r => atPos ER (xferCell c 2 (peer c r)) 0 ∅ 0) ∗ (bigSep Finset.univ fun r => atPos ER (xferCell c 3 (orig c r)) 0 ∅ 0) ∗ (bigSep Finset.univ fun r => cred (tallyAt (xferCell c 1 (orig c r)) () N)) ∗ (bigSep Finset.univ fun r => cred (tallyAt (xferCell c 3 (orig c r)) () N)) ∗ (bigSep Finset.univ fun k : Fin 4 => atPos ER (xferCell c k c) 0 ∅ 0) ∗ (leaves m c -∗ Kt ⟨⟩))) ?_)
  · iintro ⟨#He, HS, Hpx, Hpr, Hpi, Hpw, HR⟩
    icases HR with ⟨Hpart, Hred, Hout, Hso, Hgo, Hcb, Hab, Hk0, Hk1, Hk2, Hk3, Ha0, Ha1, Ha2, Ha3, Hc1, Hc3, Hsf, Hkk⟩
    iframe
    iframe #
  try dsimp only
  rw [wp_bind]; refine BIBase.Entails.trans ?_ (part5_spec m K c (R := iprop(pts c ixM fullShare (xstg2 m c) ∗ pts c xM fullShare (xstg0 m c) ∗ pts c rwM fullShare (xstg1 m c) ∗ (∃ f, pts c redM fullShare f) ∗ (∃ f, pts c oM fullShare f) ∗ (∃ f, pts c (slotM scatM c) fullShare f) ∗ (∃ f, pts c (slotM gathM c) fullShare f) ∗ (bigSep Finset.univ fun r => dutyTok ER (xferCell c 0 (peer c r)) 0 0) ∗ (bigSep Finset.univ fun r => dutyTok ER (xferCell (peer c r) 1 c) 0 0) ∗ (bigSep Finset.univ fun r => dutyTok ER (xferCell c 2 (peer c r)) 0 0) ∗ (bigSep Finset.univ fun r => dutyTok ER (xferCell (peer c r) 3 c) 0 0) ∗ (bigSep Finset.univ fun r => atPos ER (xferCell c 0 (peer c r)) 0 ∅ 0) ∗ (bigSep Finset.univ fun r => atPos ER (xferCell c 1 (orig c r)) 0 ∅ 0) ∗ (bigSep Finset.univ fun r => atPos ER (xferCell c 2 (peer c r)) 0 ∅ 0) ∗ (bigSep Finset.univ fun r => atPos ER (xferCell c 3 (orig c r)) 0 ∅ 0) ∗ (bigSep Finset.univ fun r => cred (tallyAt (xferCell c 1 (orig c r)) () N)) ∗ (bigSep Finset.univ fun r => cred (tallyAt (xferCell c 3 (orig c r)) () N)) ∗ (bigSep Finset.univ fun k : Fin 4 => atPos ER (xferCell c k c) 0 ∅ 0) ∗ (leaves m c -∗ Kt ⟨⟩))) ?_)
  · iintro ⟨Hpi, Hpw, #He, HS, Hpx, Hpr, Hpart, Hred, Hout, Hso, Hgo, Hcb, Hab, HR⟩
    icases HR with ⟨Hk0, Hk1, Hk2, Hk3, Ha0, Ha1, Ha2, Ha3, Hc1, Hc3, Hsf, Hkk⟩
    unfold sigSt barSt₀
    rw [mix_end]
    icases HS with ⟨-, HO⟩
    iframe
    iframe #
  try dsimp only
  rw [wp_bind]; refine BIBase.Entails.trans ?_ (part6_spec m K c (R := iprop(pts c wM fullShare (xstg3 m c) ∗ pts c ixM fullShare (xstg2 m c) ∗ pts c xM fullShare (xstg0 m c) ∗ pts c rwM fullShare (xstg1 m c) ∗ semVal (barCell c) 0 ∗ pts c (chunkM c) fullShare (partC m c) ∗ (bigSep Finset.univ fun r => iprop(∃ f, pts (peer c r) (slotM gathM c) fullShare f)) ∗ (∃ f, pts c redM fullShare f) ∗ (∃ f, pts c oM fullShare f) ∗ (∃ f, pts c (slotM scatM c) fullShare f) ∗ (∃ f, pts c (slotM gathM c) fullShare f) ∗ (bigSep Finset.univ fun r => dutyTok ER (xferCell c 2 (peer c r)) 0 0) ∗ (bigSep Finset.univ fun r => dutyTok ER (xferCell (peer c r) 3 c) 0 0) ∗ (bigSep Finset.univ fun r => atPos ER (xferCell c 0 (peer c r)) 0 ∅ 0) ∗ (bigSep Finset.univ fun r => atPos ER (xferCell c 1 (orig c r)) 0 ∅ 0) ∗ (bigSep Finset.univ fun r => atPos ER (xferCell c 2 (peer c r)) 0 ∅ 0) ∗ (bigSep Finset.univ fun r => atPos ER (xferCell c 3 (orig c r)) 0 ∅ 0) ∗ (bigSep Finset.univ fun r => cred (tallyAt (xferCell c 1 (orig c r)) () N)) ∗ (bigSep Finset.univ fun r => cred (tallyAt (xferCell c 3 (orig c r)) () N)) ∗ (bigSep Finset.univ fun k : Fin 4 => atPos ER (xferCell c k c) 0 ∅ 0) ∗ (leaves m c -∗ Kt ⟨⟩))) ?_)
  · iintro ⟨#He, HB, Hpw, Hpart, Hpi, Hpx, Hpr, Hred, Hout, Hso, Hgo, Hk0, Hk1, HR⟩
    icases HR with ⟨Hk2, Hk3, Ha0, Ha1, Ha2, Ha3, Hc1, Hc3, Hsf, Hkk⟩
    ihave HB := (bar_done c) $$ HB
    icases HB with ⟨Hsp, Hgp, Hzb, HO⟩
    ihave Hpart := (part_open m c) $$ Hpart
    icases Hpart with ⟨Hch, Hcp⟩
    ihave HS := (send1_begin m c) $$ [Hk0 Hk1 Hcp Hsp HO]
    · isplitl [Hk0]; · iexact Hk0
      isplitl [Hk1]; · iexact Hk1
      isplitl [Hcp]; · iexact Hcp
      isplitl [Hsp] <;> iassumption
    iframe
    iframe #
  try dsimp only
  rw [wp_bind]; refine part7_spec m K c ?_
  rw [wp_bind]; refine part8_spec m K c (fun w8 => ?_); try dsimp only
  rw [wp_bind]; refine part9_spec m K c _ _ (fun w9 => ?_); try dsimp only
  rw [wp_bind]; refine part10_spec m K c _ ?_
  rw [wp_bind]; refine BIBase.Entails.trans ?_ (part11_spec m K c (R := iprop(pts c wM fullShare (xstg3 m c) ∗ pts c ixM fullShare (xstg2 m c) ∗ pts c xM fullShare (xstg0 m c) ∗ pts c rwM fullShare (xstg1 m c) ∗ semVal (barCell c) 0 ∗ (bigSep Finset.univ fun r => iprop(∃ f, pts (peer c r) (slotM gathM c) fullShare f)) ∗ (∃ f, pts c redM fullShare f) ∗ (∃ f, pts c oM fullShare f) ∗ (∃ f, pts c (slotM gathM c) fullShare f) ∗ (bigSep Finset.univ fun r => dutyTok ER (xferCell c 2 (peer c r)) 0 0) ∗ (bigSep Finset.univ fun r => dutyTok ER (xferCell (peer c r) 3 c) 0 0) ∗ (bigSep Finset.univ fun r => atPos ER (xferCell c 0 (peer c r)) 0 ∅ 0) ∗ bigSep Finset.univ (sendB c 0) ∗ (bigSep Finset.univ fun r => atPos ER (xferCell c 2 (peer c r)) 0 ∅ 0) ∗ (bigSep Finset.univ fun r => atPos ER (xferCell c 3 (orig c r)) 0 ∅ 0) ∗ (bigSep Finset.univ fun r => cred (tallyAt (xferCell c 3 (orig c r)) () N)) ∗ (bigSep Finset.univ fun k : Fin 4 => atPos ER (xferCell c k c) 0 ∅ 0) ∗ (leaves m c -∗ Kt ⟨⟩))) (fun w11 => ?_))
  · iintro ⟨#He, HS, Hpw, Hpi, Hpx, Hpr, Hzb, Hch, Hgp, Hred, Hout, Hso, Hgo, Hk2, Hk3, Ha0, Ha1, Ha2, Ha3, Hc1, Hc3, Hsf, Hkk⟩
    ihave HS := (send1_done m c _ rfl) $$ HS
    icases HS with ⟨Hc0, HO⟩
    ihave HA := (waitA_all c 1 (orig c)) $$ [Hc1 Ha1]
    · isplitl [Hc1] <;> iassumption
    ihave HS := (wait_begin m c 1 (orig c) 15 0) $$ [HA HO]
    · isplitl [HA] <;> iassumption
    iframe
    iframe #
  try dsimp only
  rw [wp_bind]; refine part12_spec m K c _ (fun w12 => ?_); try dsimp only
  rw [wp_bind]; refine part13_spec m K c _ (fun w13 => ?_); try dsimp only
  rw [wp_bind]; refine part14_spec m K c _ _ ?_
  rw [wp_bind]; refine part15_spec m K c ?_
  rw [wp_bind]; refine BIBase.Entails.trans ?_ (part16_spec m K c (R := iprop(pts c (chunkM c) fullShare (partC m c) ∗ pts c wM fullShare (xstg3 m c) ∗ pts c ixM fullShare (xstg2 m c) ∗ pts c xM fullShare (xstg0 m c) ∗ pts c rwM fullShare (xstg1 m c) ∗ semVal (barCell c) 0 ∗ (bigSep Finset.univ fun r => iprop(∃ f, pts (peer c r) (slotM gathM c) fullShare f)) ∗ (∃ f, pts c oM fullShare f) ∗ (bigSep Finset.univ fun r => dutyTok ER (xferCell c 2 (peer c r)) 0 0) ∗ (bigSep Finset.univ fun r => dutyTok ER (xferCell (peer c r) 3 c) 0 0) ∗ (bigSep Finset.univ fun r => atPos ER (xferCell c 0 (peer c r)) 0 ∅ 0) ∗ bigSep Finset.univ (sendB c 0) ∗ (bigSep Finset.univ fun r => atPos ER (xferCell c 2 (peer c r)) 0 ∅ 0) ∗ (bigSep Finset.univ fun r => atPos ER (xferCell c 3 (orig c r)) 0 ∅ 0) ∗ (bigSep Finset.univ fun r => cred (tallyAt (xferCell c 3 (orig c r)) () N)) ∗ (bigSep Finset.univ fun k : Fin 4 => atPos ER (xferCell c k c) 0 ∅ 0) ∗ (leaves m c -∗ Kt ⟨⟩))) ?_)
  · iintro ⟨#He, HS, Hch, Hss, Hpw, Hpi, Hpx, Hpr, Hzb, Hgp, Hred, Hout, Hgo, HR⟩
    iframe
    iframe #
  try dsimp only
  rw [wp_bind]; refine BIBase.Entails.trans ?_ (part17_spec m K c (R := iprop(bigSep Finset.univ (waitA c 3 (orig c)) ∗ (bigSep Finset.univ fun r => semVal (xferCell c 1 (orig c r)) 0) ∗ pts c scatM fullShare (scatC m c) ∗ (pts c redM (Transfers.shareDrop fullShare 16) (redC m c) ∗ pts c redM (Transfers.shareTok fullShare 16 c) (redC m c)) ∗ pts c (slotM gathM c) fullShare (gathC m) ∗ pts c (chunkM c) fullShare (partC m c) ∗ pts c wM fullShare (xstg3 m c) ∗ pts c ixM fullShare (xstg2 m c) ∗ pts c xM fullShare (xstg0 m c) ∗ pts c rwM fullShare (xstg1 m c) ∗ semVal (barCell c) 0 ∗ (∃ f, pts c oM fullShare f) ∗ (bigSep Finset.univ fun r => atPos ER (xferCell c 0 (peer c r)) 0 ∅ 0) ∗ bigSep Finset.univ (sendB c 0) ∗ (bigSep Finset.univ fun r => atPos ER (xferCell c 2 (peer c r)) 0 ∅ 0) ∗ (bigSep Finset.univ fun k : Fin 4 => atPos ER (xferCell c k c) 0 ∅ 0) ∗ (leaves m c -∗ Kt ⟨⟩))) (fun w17 => ?_))
  · iintro ⟨#He, HO, Hz1, Hsc, Hrf, Hgs, Hch, Hpw, Hpi, Hpx, Hpr, Hzb, Hgp, Hout, Hk2, Hk3, Ha0, Hc0, Ha2, Ha3, Hc3, Hsf, Hkk⟩
    ihave Hrf := (red_open m c) $$ Hrf
    icases Hrf with ⟨Hrd2, Hrp⟩
    ihave HS := (send2_begin m c) $$ [Hk2 Hk3 Hrp Hgp HO]
    · isplitl [Hk2]; · iexact Hk2
      isplitl [Hk3]; · iexact Hk3
      isplitl [Hrp]; · iexact Hrp
      isplitl [Hgp] <;> iassumption
    ihave Hw3 := (waitA_all c 3 (orig c)) $$ [Hc3 Ha3]
    · isplitl [Hc3] <;> iassumption
    iframe
    iframe #
  try dsimp only
  rw [wp_bind]; refine part18_spec m K c _ ?_
  rw [wp_bind]; refine part19_spec m K c (fun w19 => ?_); try dsimp only
  rw [wp_bind]; refine part20_spec m K c _ _ ?_
  rw [wp_bind]; refine part21_spec m K c (R := iprop((bigSep Finset.univ fun r => semVal (xferCell c 1 (orig c r)) 0) ∗ pts c scatM fullShare (scatC m c) ∗ (pts c redM (Transfers.shareDrop fullShare 16) (redC m c) ∗ pts c redM (Transfers.shareTok fullShare 16 c) (redC m c)) ∗ pts c (slotM gathM c) fullShare (gathC m) ∗ pts c (chunkM c) fullShare (partC m c) ∗ pts c wM fullShare (xstg3 m c) ∗ pts c ixM fullShare (xstg2 m c) ∗ pts c xM fullShare (xstg0 m c) ∗ pts c rwM fullShare (xstg1 m c) ∗ semVal (barCell c) 0 ∗ (∃ f, pts c oM fullShare f) ∗ (bigSep Finset.univ fun r => atPos ER (xferCell c 0 (peer c r)) 0 ∅ 0) ∗ bigSep Finset.univ (sendB c 0) ∗ (bigSep Finset.univ fun r => atPos ER (xferCell c 2 (peer c r)) 0 ∅ 0) ∗ (bigSep Finset.univ fun k : Fin 4 => atPos ER (xferCell c k c) 0 ∅ 0) ∗ (leaves m c -∗ Kt ⟨⟩))) (fun w21 => ?_); try dsimp only
  rw [wp_bind]; refine part22_spec m K c _ _ ?_
  rw [wp_bind]; refine part23_spec m K c ?_
  rw [wp_bind]; refine part24_spec m K c (fun w24 => ?_); try dsimp only
  rw [wp_bind]; refine BIBase.Entails.trans ?_ (part25_spec m K c _ _ (R := iprop(bigSep Finset.univ (sendB c 2) ∗ (bigSep Finset.univ fun r => semVal (xferCell c 1 (orig c r)) 0) ∗ pts c scatM fullShare (scatC m c) ∗ (pts c redM (Transfers.shareDrop fullShare 16) (redC m c) ∗ pts c redM (Transfers.shareTok fullShare 16 c) (redC m c)) ∗ pts c (chunkM c) fullShare (partC m c) ∗ pts c wM fullShare (xstg3 m c) ∗ pts c ixM fullShare (xstg2 m c) ∗ pts c xM fullShare (xstg0 m c) ∗ pts c rwM fullShare (xstg1 m c) ∗ semVal (barCell c) 0 ∗ (bigSep Finset.univ fun r => atPos ER (xferCell c 2 (peer c r)) 0 ∅ 0) ∗ (bigSep Finset.univ fun k : Fin 4 => atPos ER (xferCell c k c) 0 ∅ 0) ∗ (leaves m c -∗ Kt ⟨⟩))) ?_)
  · iintro ⟨#He, HS, Hs2, Hz1, Hsc, Hrd2, Hgs, Hch, Hpw, Hpi, Hpx, Hpr, Hzb, Hout, Ha0, Hc0, Ha2, Hsf, Hkk⟩
    unfold sendB
    ihave Hw0 := (waitA_all c 0 (peer c)) $$ [Hc0 Ha0]
    · isplitl [Hc0] <;> iassumption
    iframe
    iframe #
  try dsimp only
  rw [wp_bind]; refine part26_spec m K c ?_
  rw [wp_bind]; refine part27_spec m K c ?_
  rw [wp_bind]; refine BIBase.Entails.trans ?_ (part28_spec m K c (R := iprop((bigSep Finset.univ fun r => semVal (xferCell c 3 (orig c r)) 0) ∗ pts c gathM fullShare (gathC m) ∗ pts c oM fullShare (outC m) ∗ (bigSep Finset.univ fun r => semVal (xferCell c 1 (orig c r)) 0) ∗ pts c scatM fullShare (scatC m c) ∗ (pts c redM (Transfers.shareDrop fullShare 16) (redC m c) ∗ pts c redM (Transfers.shareTok fullShare 16 c) (redC m c)) ∗ pts c (chunkM c) fullShare (partC m c) ∗ pts c wM fullShare (xstg3 m c) ∗ pts c ixM fullShare (xstg2 m c) ∗ pts c xM fullShare (xstg0 m c) ∗ pts c rwM fullShare (xstg1 m c) ∗ semVal (barCell c) 0 ∗ (bigSep Finset.univ fun k : Fin 4 => atPos ER (xferCell c k c) 0 ∅ 0) ∗ (leaves m c -∗ Kt ⟨⟩))) ?_)
  · iintro ⟨#He, HS, Hz3, Hgf, Hof, Hs2, Hz1, Hsc, Hrd2, Hch, Hpw, Hpi, Hpx, Hpr, Hzb, Ha2, Hsf, Hkk⟩
    unfold sendB
    ihave Hw2 := (waitA_all c 2 (peer c)) $$ [Hs2 Ha2]
    · isplitl [Hs2] <;> iassumption
    iframe
    iframe #
  try dsimp only
  rw [wp_bind]; refine part29_spec m K c ?_
  simp only [Prog.lift, Prog.bind_op, Prog.bind_ret, Prog.pure_eq_ret]
  refine wait_step m K c 2 (peer c) 15 15 (peer_ne c) (fun r => mayWait_end c _) 13 (sem_send2 (peer c 13) (k0_off1_eq c 13)) (by exact credit_red) ?_
  refine wait_step m K c 2 (peer c) 15 15 (peer_ne c) (fun r => mayWait_end c _) 14 (sem_send2 (peer c 14) (k0_off1_eq c 14)) (by exact credit_red) ?_
  rw [wp_ret]
  iintro ⟨#He, HS, Hp0, Hz0, Hz3, Hgf, Hof, Hz1, Hsc, Hrd2, Hch, Hpw, Hpi, Hpx, Hpr, Hzb, Hsf, Hkk⟩
  ihave HW := (wait_done m c 2 (peer c) 15 15 ((14 : Fin 15).val + 1) rfl) $$ HS
  icases HW with ⟨Hp2, Hz2, HO⟩
  ihave Hpart := (part_close m c) $$ [Hch Hp0]
  · isplitl [Hch] <;> iassumption
  ihave Hrf := (red_close m c) $$ [Hrd2 Hp2]
  · isplitl [Hrd2] <;> iassumption
  imod (show iprop(env m K ∗ bigSep Finset.univ fun k : Fin 4 => atPos ER (xferCell c k c) 0 ∅ 0)
      ⊢ (|={Set.univ}=> bigSep Finset.univ fun k : Fin 4 => semVal (xferCell c k c) 0 : sProp 𝕄) from
        ((sep_mono_left (BI.bigSep_of_persistent Finset.univ (env m K))).trans (by rw [← bigSep_sep']; exact bigSep_mono fun k _ => self_close m K c k)).trans
          (bigSep_fupd _ _)) $$ [Hsf] with Hz
  · isplitr; · iexact He
    iexact Hsf
  imodintro
  iapply Hkk
  iapply (leaves_intro m c)
  iframe

end Cert.KernelIdealProof

end
-- ==== Proof.LaunchKernelIdeal.lean ====
/-
# The launch

What the launch deals each device, the body's obligation, and the run of the whole program.
-/
module

public import proofs.«01_k».proof.Proof.BodyKernelIdeal
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's obligation -/

/-- A device's ghost state, at the names the launch allocated the invariants at. -/
def named (c : Dev nD) : sProp 𝕄 := iprop(∃ K, recs m K ∗ ghost c)
def start (c : Dev nD) : sProp 𝕄 := iprop(named m c ∗ levAts L lv ∗ credits c)
def Φ₀ (c : Dev nD) : sProp 𝕄 := iprop(start m c ∗ scr c)
def Φ₁ (c : Dev nD) : sProp 𝕄 := iprop(scr (F := F) c ∗ zeros c ∗ semVal (barCell c) 0)
/-- What device `c` owes from the launch on. -/
abbrev O₀ (c : Dev nD) : CellTallies nD τ sig Unit := owed3 c 0 0 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg0 m c
    | ⟨1, _⟩ => xstg1 m c
    | ⟨2, _⟩ => xstg2 m c
    | ⟨3, _⟩ => xstg3 m c
    | ⟨4, _⟩ => outC m
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt () t₀.succ
    ∗ stg c cc0_stg0_0 (xstg0 m c) ∗ stg c cc0_stg1_0 (xstg1 m c) ∗ stg c cc0_stg2_0 (xstg2 m c) ∗ stg c cc0_stg3_0 (xstg3 m c)
    ∗ stg c cc0_stg4_0 (outC m))

omit [FloatOps F] in
theorem pts_stg0 (c : Dev nD) (f : (cc0_stg0_0 : Ref sig .tc).ty.Contents (Elt F)) :
    (pts c xM fullShare f : sProp 𝕄) = (((c : Thread nD τ).loc cc0_stg0_0) ↦{fullShare} f) := by
  unfold pts; exact pts_whole c cc0_stg0_0 rfl fullShare f
omit [FloatOps F] in
theorem pts_stg1 (c : Dev nD) (f : (cc0_stg1_0 : Ref sig .tc).ty.Contents (Elt F)) :
    (pts c rwM fullShare f : sProp 𝕄) = (((c : Thread nD τ).loc cc0_stg1_0) ↦{fullShare} f) := by
  unfold pts; exact pts_whole c cc0_stg1_0 rfl fullShare f
omit [FloatOps F] in
theorem pts_stg2 (c : Dev nD) (f : (cc0_stg2_0 : Ref sig .tc).ty.Contents (Elt F)) :
    (pts c ixM fullShare f : sProp 𝕄) = (((c : Thread nD τ).loc cc0_stg2_0) ↦{fullShare} f) := by
  unfold pts; exact pts_whole c cc0_stg2_0 rfl fullShare f
omit [FloatOps F] in
theorem pts_stg3 (c : Dev nD) (f : (cc0_stg3_0 : Ref sig .tc).ty.Contents (Elt F)) :
    (pts c wM fullShare f : sProp 𝕄) = (((c : Thread nD τ).loc cc0_stg3_0) ↦{fullShare} f) := by
  unfold pts; exact pts_whole c cc0_stg3_0 rfl fullShare f
omit [FloatOps F] in
theorem pts_stg4 (c : Dev nD) (f : (cc0_stg4_0 : Ref sig .tc).ty.Contents (Elt F)) :
    (pts c oM fullShare f : sProp 𝕄) = (((c : Thread nD τ).loc cc0_stg4_0) ↦{fullShare} f) := by
  unfold pts; exact pts_whole c cc0_stg4_0 rfl fullShare f
omit [FloatOps F] in
theorem pts_scr0 (c : Dev nD) (f : (cc0_scratch0 : Ref sig .tc).ty.Contents (Elt F)) :
    (pts c partM fullShare f : sProp 𝕄) = (((c : Thread nD τ).loc cc0_scratch0) ↦{fullShare} f) := by
  unfold pts; exact pts_whole c cc0_scratch0 rfl fullShare f
omit [FloatOps F] in
theorem pts_scr1 (c : Dev nD) (f : (cc0_scratch1 : Ref sig .tc).ty.Contents (Elt F)) :
    (pts c scatM fullShare f : sProp 𝕄) = (((c : Thread nD τ).loc cc0_scratch1) ↦{fullShare} f) := by
  unfold pts; exact pts_whole c cc0_scratch1 rfl fullShare f
omit [FloatOps F] in
theorem pts_scr2 (c : Dev nD) (f : (cc0_scratch2 : Ref sig .tc).ty.Contents (Elt F)) :
    (pts c redM fullShare f : sProp 𝕄) = (((c : Thread nD τ).loc cc0_scratch2) ↦{fullShare} f) := by
  unfold pts; exact pts_whole c cc0_scratch2 rfl fullShare f
omit [FloatOps F] in
theorem pts_scr3 (c : Dev nD) (f : (cc0_scratch3 : Ref sig .tc).ty.Contents (Elt F)) :
    (pts c gathM fullShare f : sProp 𝕄) = (((c : Thread nD τ).loc cc0_scratch3) ↦{fullShare} f) := by
  unfold pts; exact pts_whole c cc0_scratch3 rfl fullShare f

theorem post_intro (c : Dev nD) : leaves m c ⊢ bodyPost m ρ c := by
  unfold leaves bodyPost Φ₁ ins Ow Dat.owesAt Pipeline.owesWithin
  rw [show (dats m ρ 0 c).owed t₀.succ = 0 from rfl, owed3_end, pts_stg0, pts_stg1, pts_stg2, pts_stg3, pts_stg4]
  iintro ⟨Hs, Hz, Hb, ⟨%W, HO⟩, ⟨H0, H1, H2, H3⟩, H4⟩
  isplitl [Hs Hz Hb]
  · isplitl [Hs]; · iexact Hs
    isplitl [Hz] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem pre_elim (c : Dev nD) : bodyPre m ρ c ⊢ iprop(∃ K, env m K ∗ ghost c ∗ credits c ∗ scr c ∗ Ow c 0 0 0 ∗ ins m c ∗ (∃ f, pts c oM fullShare f)) := by
  unfold bodyPre Φ₀ start named
  iintro ⟨⟨⟨⟨%K, HR, Hg⟩, Hl, Hc⟩, Hs⟩, Ho, ⟨%d0, %g0, %h0, H0⟩, ⟨%d1, %g1, %h1, H1⟩, ⟨%d2, %g2, %h2, H2⟩, ⟨%d3, %g3, %h3, H3⟩, ⟨%d4, %g4, %h4, H4⟩⟩
  have e0 : g0 = xstg0 m c := by rw [h0]; unfold Dat.before; rw [if_pos (fetch0_0 t₀)]; rfl
  have e1 : g1 = xstg1 m c := by rw [h1]; unfold Dat.before; rw [if_pos (fetch0_1 t₀)]; rfl
  have e2 : g2 = xstg2 m c := by rw [h2]; unfold Dat.before; rw [if_pos (fetch0_2 t₀)]; rfl
  have e3 : g3 = xstg3 m c := by rw [h3]; unfold Dat.before; rw [if_pos (fetch0_3 t₀)]; rfl
  subst e0 e1 e2 e3
  unfold Dat.owesAt Pipeline.owesWithin env ins Ow
  rw [show (dats m ρ 0 c).owed t₀.castSucc = O₀ c from rfl]
  icases Ho with ⟨%W, %hW, HO⟩
  iexists K
  isplitl [HR Hl]
  · isplitl [HR] <;> iassumption
  isplitl [Hg]; · iexact Hg
  isplitl [Hc]; · iexact Hc
  isplitl [Hs]; · iexact Hs
  isplitl [HO]; · iexists W; iexact HO
  isplitl [H0 H1 H2 H3]
  · isplitl [H0]; · iapply (Entails.of_eq (pts_stg0 c _).symm); iexact H0
    isplitl [H1]; · iapply (Entails.of_eq (pts_stg1 c _).symm); iexact H1
    isplitl [H2]; · iapply (Entails.of_eq (pts_stg2 c _).symm); iexact H2
    iapply (Entails.of_eq (pts_stg3 c _).symm); iexact H3
  iexists g4; iapply (Entails.of_eq (pts_stg4 c _).symm); iexact H4

set_option maxRecDepth 30000 in
/-- The pipeline's obligation on each device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m ρ c)
  refine BIBase.Entails.trans (pre_elim m ρ c) ?_
  iintro ⟨%K, He, Hg, Hc, Hs, HO, Hi, Ho⟩
  iapply (body_run m K c fun _ => bodyPost m ρ c)
  isplitl [He]; · iexact He
  isplitl [Hg]; · iexact Hg
  isplitl [Hc]; · iexact Hc
  isplitl [Hs]; · iexact Hs
  isplitl [HO]; · iexact HO
  isplitl [Hi]; · iexact Hi
  isplitl [Ho]; · iexact Ho
  iintro Hl
  iapply (post_intro m ρ c)
  iexact Hl

/-! ## The launch -/

/-- The kernel's own semaphores: the four arrays of sixteen. -/
abbrev osem : Fin 4 × Fin 16 → SemLoc sig := fun ki => .dma (semAt ki.1 ki.2)
theorem ownSemFacts : Pipeline.OwnSemFacts cfg0.spec osem where
  isScoped := by decide
  inj := fun ⟨k, i⟩ ⟨k', i'⟩ h => by
    have h' : semAt k i = semAt k' i' := SemLoc.dma.inj h
    exact Prod.ext (semAt_inj h').1 (semAt_inj h').2
  disj := by decide

theorem share_eq (c : Dev nD) (w : Fin cfg0.W) : (dats m ρ 0 c).share w = fullShare := by unfold Dat.share; split <;> rfl

theorem bar_ne_dma {s : Sem sig} {q : DmaSem sig} : (SemLoc.reg s : SemLoc sig) ≠ .dma q := fun h => by cases h
theorem dev_of_cell {a b : Dev nD} {s s' : SemLoc sig} (h : (((a : Thread nD τ), s) : GSem nD τ sig) = ((b : Thread nD τ), s')) : a = b ∧ s = s' :=
  ⟨congrArg (fun g : GSem nD τ sig => g.1.1) h, congrArg Prod.snd h⟩

theorem kcell_injective : Function.Injective (kcell : Dev nD × Cel → GSem nD τ sig) := by
  rintro ⟨c, ⟨⟩ | ⟨k, i⟩⟩ ⟨c', ⟨⟩ | ⟨k', i'⟩⟩ h
  · obtain ⟨rfl, -⟩ := dev_of_cell h; rfl
  · exact absurd (dev_of_cell h).2 bar_ne_dma
  · exact absurd (dev_of_cell h).2.symm bar_ne_dma
  · obtain ⟨rfl, h2⟩ := dev_of_cell h
    obtain ⟨rfl, rfl⟩ := semAt_inj (SemLoc.dma.inj h2)
    rfl
def allCells : Finset (GSem nD τ sig) := Finset.univ.map ⟨kcell, kcell_injective⟩

/-- The duties of a device's own cells: fifteen of its barrier's, one of each transfer's cell but its own four. -/
abbrev Duty : Type := Fin 15 ⊕ (Fin 4 × Fin 15)
abbrev tokOf (x : Dev nD × Duty) : GSem nD τ sig × ℕ × Fin 15 := match x.2 with
  | .inl d => (barCell x.1, 0, d)
  | .inr kr => (xferCell x.1 kr.1 (peer x.1 kr.2), 0, 0)
theorem tokOf_injective : Function.Injective (tokOf : Dev nD × Duty → GSem nD τ sig × ℕ × Fin 15) := by
  rintro ⟨c, d | ⟨k, r⟩⟩ ⟨c', d' | ⟨k', r'⟩⟩ h
  · obtain ⟨rfl, -⟩ := dev_of_cell (congrArg Prod.fst h)
    have : d = d' := congrArg (fun x : GSem nD τ sig × ℕ × Fin 15 => x.2.2) h
    subst this; rfl
  · exact absurd (dev_of_cell (congrArg Prod.fst h)).2 bar_ne_dma
  · exact absurd (dev_of_cell (congrArg Prod.fst h)).2.symm bar_ne_dma
  · obtain ⟨rfl, h2⟩ := dev_of_cell (congrArg Prod.fst h)
    obtain ⟨rfl, h3⟩ := semAt_inj (SemLoc.dma.inj h2)
    have := peer_inj h3
    subst this; rfl
def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop((bigSep Finset.univ fun d : Fin 15 => dutyTok ER (barCell c) 0 d)
    ∗ bigSep Finset.univ fun k : Fin 4 => bigSep Finset.univ fun r : Fin 15 => dutyTok ER (xferCell c k (peer c r)) 0 0)

/-- What the launch deals device `c`. -/
def G (c : Dev nD) : sProp 𝕄 :=
  iprop((bigSep Finset.univ fun k : Cel => roundState ER (rd m) (kcell (c, k)) 0)
    ∗ ((bigSep Finset.univ fun k : Cel => atPos ER (kcell (c, k)) 0 ∅ 0) ∗ bigSep Finset.univ fun k : Cel => reached ER (kcell (c, k)) 0) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cel => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros; rw [bigSep_univ_prod]
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's cells: the barrier's member and the transfers'. -/
theorem bigSep_cel {M : Type*} [URA M] (Φ : Cel → sProp M) :
    bigSep Finset.univ Φ = iprop(Φ (.inl ()) ∗ bigSep Finset.univ fun k : Fin 4 => bigSep Finset.univ fun i : Fin 16 => Φ (.inr (k, i))) := by
  rw [bigSep_univ_sum, bigSep_univ_of_subsingleton (), bigSep_univ_prod]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Cel => semVal (kcell (c, k)) 0 : sProp 𝕄) := by
  rw [ownSems0_eq, unscopedSems0_eq, bigSep_cel]; unfold zeros
  iintro ⟨H1, H2⟩
  isplitl [H2] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cel => iprop(∃ κ : ℕ, cellInv ER (rd m) κ (kcell (c, k))))
          ∗ ((bigSep Finset.univ fun k : Cel => atPos ER (kcell (c, k)) 0 ∅ 0) ∗ bigSep Finset.univ fun k : Cel => reached ER (kcell (c, k)) 0) ∗ toks c) := by
  unfold G
  iintro ⟨Hos, Hus, Hst, Hat, Htok⟩
  ihave Hv := (sems0 (F := F) c) $$ [Hos Hus]
  · isplitl [Hos] <;> iassumption
  imod (show iprop((bigSep Finset.univ fun k : Cel => semVal (kcell (c, k)) 0) ∗ bigSep Finset.univ fun k : Cel => roundState ER (rd m) (kcell (c, k)) 0)
      ⊢ (|={Set.univ}=> bigSep Finset.univ fun k : Cel => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The same exchange seen from its other end. -/
def swapE : Dev nD × Fin 15 ≃ Dev nD × Fin 15 where
  toFun x := (peer x.1 x.2, opp x.2)
  invFun x := (peer x.1 x.2, opp x.2)
  left_inv x := Prod.ext (peer_peer_opp x.1 x.2) (opp_opp x.2)
  right_inv x := Prod.ext (peer_peer_opp x.1 x.2) (opp_opp x.2)
theorem deal {M : Type*} [URA M] (Φ : Dev nD → Fin 15 → sProp M) :
    (bigSep Finset.univ fun c : Dev nD => bigSep Finset.univ fun r : Fin 15 => Φ c r)
      = bigSep Finset.univ fun c : Dev nD => bigSep Finset.univ fun r : Fin 15 => Φ (peer c r) (opp r) := by
  rw [← bigSep_univ_prod (fun x : Dev nD × Fin 15 => Φ x.1 x.2), bigSep_univ_equiv swapE, bigSep_univ_prod]; rfl

/-- The tokens of the duties device `c` pays. -/
def pays (c : Dev nD) : sProp 𝕄 :=
  iprop((bigSep Finset.univ fun r => dutyTok ER (barCell (peer c r)) 0 (opp r))
    ∗ (bigSep Finset.univ fun r => dutyTok ER (xferCell c 0 (peer c r)) 0 0)
    ∗ (bigSep Finset.univ fun r => dutyTok ER (xferCell (peer c r) 1 c) 0 0)
    ∗ (bigSep Finset.univ fun r => dutyTok ER (xferCell c 2 (peer c r)) 0 0)
    ∗ (bigSep Finset.univ fun r => dutyTok ER (xferCell (peer c r) 3 c) 0 0))

theorem toks_around : (bigSep Finset.univ fun c : Dev nD => (toks c : sProp 𝕄)) ⊢ bigSep Finset.univ fun c : Dev nD => pays c := by
  unfold toks pays
  have hk (k : Fin 4) : (bigSep Finset.univ fun c : Dev nD => bigSep Finset.univ fun r : Fin 15 => (dutyTok ER (xferCell c k (peer c r)) 0 0 : sProp 𝕄))
      = bigSep Finset.univ fun c : Dev nD => bigSep Finset.univ fun r : Fin 15 => dutyTok ER (xferCell (peer c r) k c) 0 0 := by
    rw [deal]
    exact bigSep_congr fun c _ => bigSep_congr fun r _ => by rw [peer_peer_opp]
  simp only [bigSep_fin4]
  rw [bigSep_sep', bigSep_sep', bigSep_sep', bigSep_sep', bigSep_sep', bigSep_sep', bigSep_sep', bigSep_sep', deal, hk 1, hk 3]

theorem named_intro (K : Dev nD × Cel → ℕ) (c : Dev nD) :
    iprop(recs m K ∗ ((bigSep Finset.univ fun k : Cel => atPos ER (kcell (c, k)) 0 ∅ 0) ∗ pays c)) ⊢ named m c := by
  unfold named pays ghost
  rw [bigSep_cel]
  iintro ⟨HR, ⟨H1, H2⟩, Hp⟩
  iexists K
  isplitl [HR]; · iexact HR
  isplitl [H1]; · iexact H1
  isplitl [H2]; · iexact H2
  iexact Hp

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cel => iprop(∃ κ : ℕ, cellInv ER (rd m) κ (kcell (c, k))))
          ∗ ((bigSep Finset.univ fun k : Cel => atPos ER (kcell (c, k)) 0 ∅ 0) ∗ bigSep Finset.univ fun k : Cel => reached ER (kcell (c, k)) 0) ∗ toks c) : sProp 𝕄)
      ⊢ bigSep Finset.univ (named m) := by
  rw [bigSep_sep', bigSep_sep', bigSep_sep', ← bigSep_univ_prod (fun ck : Dev nD × Cel => iprop(∃ κ : ℕ, cellInv ER (rd m) κ (kcell ck))),
    ← bigSep_univ_prod (fun ck : Dev nD × Cel => (reached ER (kcell ck) 0 : sProp 𝕄))]
  iintro ⟨HI, ⟨Hat, HR⟩, Htok⟩
  ihave HK := (BI.bigSep_exists_pi Finset.univ (fun (ck : Dev nD × Cel) (κ : ℕ) => (cellInv ER (rd m) κ (kcell ck) : sProp 𝕄))) $$ HI
  icases HK with ⟨%K, HI⟩
  ihave Htk := (toks_around (F := F)) $$ Htok
  iapply (with_persistent (R := recs m K) fun c _ => named_intro m K c)
  isplitl [HI HR]
  · unfold recs
    iapply (Entails.of_eq (bigSep_sep' Finset.univ (fun x : Dev nD × Cel => (cellInv ER (rd m) (K x) (kcell x) : sProp 𝕄)) (fun x => reached ER (kcell x) 0)).symm)
    isplitl [HI] <;> iassumption
  · iapply (Entails.of_eq (bigSep_sep' Finset.univ (fun c : Dev nD => bigSep Finset.univ fun k : Cel => (atPos ER (kcell (c, k)) 0 ∅ 0 : sProp 𝕄)) pays).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (named m) :=
  ((bigSep_mono fun c _ => core_alloc m c).trans (bigSep_fupd _ _)).trans (BI.fupd_mono (regroup m))

/-! ## What the others owe a device at the launch -/

abbrev owedBar (d : Dev nD) : CellTallies nD τ sig Unit := ∑ r ∈ rest 0, tallyAt (barCell (peer d r)) () 1
abbrev owedXfer (k : Fin 4) (d : Dev nD) : CellTallies nD τ sig Unit := ∑ r ∈ rest 0, tallyAt (xferCell (peer d r) k d) () N

theorem sum_apply (f : Fin 15 → GSem nD τ sig) (n : ℕ) (g : GSem nD τ sig) :
    (∑ r ∈ rest 0, tallyAt (f r) () n : CellTallies nD τ sig Unit) g () = ∑ r : Fin 15, if g = f r then n else 0 := by
  rw [rest_zero, Finset.sum_apply, Finsupp.finset_sum_apply]
  exact Finset.sum_congr rfl fun r _ => by
    rw [tallyAt_apply]
    by_cases h : g = f r
    · rw [if_pos ⟨h, rfl⟩, if_pos h]
    · rw [if_neg fun h' => h h'.1, if_neg h]

theorem peers_before : ∀ c : Dev nD, (∑ d : Dev nD, ∑ r : Fin 15, if c = peer d r then 1 else 0) = 15 := by
  intro c
  have h (d : Dev nD) : (∑ r : Fin 15, if c = peer d r then 1 else 0) = if d = c then 0 else 1 := by
    split
    · next h => subst h; exact Finset.sum_eq_zero fun r _ => if_neg (ne_peer d r)
    · next h =>
      obtain ⟨r, rfl⟩ : ∃ r, c = peer d r := by revert h; revert c d; decide
      rw [Finset.sum_eq_single r (fun r' _ hr => if_neg fun e => hr (peer_inj e).symm) (fun h => absurd (Finset.mem_univ _) h), if_pos rfl]
  rw [Finset.sum_congr rfl fun d _ => h d]
  revert c; decide

theorem launch_bar (c : Dev nD) :
    tallyOn (barCell c) (launchCredit (Pipeline.owing owedBar) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => sum_apply _ _ _]
  refine Eq.trans ?_ (peers_before c)
  refine Finset.sum_congr rfl fun d _ => Finset.sum_congr rfl fun r _ => ?_
  by_cases h : c = peer d r
  · rw [if_pos h, if_pos (by rw [h])]
  · rw [if_neg h, if_neg fun e => h (dev_of_cell e).1]

theorem launch_xfer (k : Fin 4) (c : Dev nD) (s : Fin 15) :
    tallyOn (xferCell c k (orig c s)) (launchCredit (Pipeline.owing (owedXfer k)) 0 (xferCell c k (orig c s)))
      = (tallyAt (xferCell c k (orig c s)) () N : CellTallies nD τ sig Unit) := by
  unfold tallyAt; refine congrArg _ (Finsupp.ext fun u => ?_); cases u
  rw [Pipeline.launchCredit_owing, Finsupp.single_eq_same, Finset.sum_congr rfl fun d _ => sum_apply _ _ _]
  rw [Finset.sum_eq_single (orig c s) (fun d _ hd => Finset.sum_eq_zero fun r _ => if_neg fun e =>
      hd (semAt_inj (SemLoc.dma.inj (dev_of_cell e).2)).2.symm) (fun h => absurd (Finset.mem_univ _) h)]
  rw [Finset.sum_eq_single s (fun r _ hr => if_neg fun e => hr (peer_inj (c := orig c s) ((dev_of_cell e).1.symm.trans (peer_orig c s).symm)))
    (fun h => absurd (Finset.mem_univ _) h), if_pos (by rw [peer_orig])]

theorem orig_inj {c : Dev nD} {r r' : Fin 15} (h : orig c r = orig c r') : r = r' := by revert c r r'; decide

theorem cred_xfer (k : Fin 4) (c : Dev nD) :
    (Pipeline.launchCred (owedXfer k) c : sProp 𝕄) ⊢ bigSep Finset.univ fun r => cred (tallyAt (xferCell c k (orig c r)) () N) := by
  unfold Pipeline.launchCred
  refine (bigSep_subset (Finset.subset_univ (Finset.univ.map
    ⟨fun r : Fin 15 => (SemLoc.dma (semAt k (orig c r)) : SemLoc sig), fun r r' h => orig_inj (semAt_inj (SemLoc.dma.inj h)).2⟩))).trans ?_
  rw [bigSep_map]
  exact Entails.of_eq (bigSep_congr fun r _ => congrArg cred (launch_xfer k c r))

theorem creds (c : Dev nD) : (Pipeline.launchCred O₀ c : sProp 𝕄) ⊢ credits c := by
  have h : (Pipeline.launchCred O₀ c : sProp 𝕄) = iprop((Pipeline.launchCred owedBar c ∗ Pipeline.launchCred (owedXfer 1) c) ∗ Pipeline.launchCred (owedXfer 3) c) := by
    rw [← Pipeline.launchCred_add, ← Pipeline.launchCred_add]; rfl
  rw [h]; unfold credits
  iintro ⟨⟨H1, H2⟩, H3⟩
  isplitl [H1]
  · iapply ((Pipeline.launchCred_elim owedBar c (.reg barS)).trans (Entails.of_eq (congrArg cred (launch_bar c)))); iexact H1
  isplitl [H2]
  · iapply (cred_xfer 1 c); iexact H2
  iapply (cred_xfer 3 c); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ named m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

theorem scr_eq (c : Dev nD) : (Pipeline.scopedRest cfg0.spec c : sProp 𝕄) = scr c := by
  rw [scopedRest0_eq]; unfold scr; simp only [pts_scr0, pts_scr1, pts_scr2, pts_scr3]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, ownSems0_eq, unscopedSems0_eq]
  unfold Φ₁
  iintro ⟨Hr, Hz, Hb⟩
  isplitl [Hb]; · iexact Hb
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma (((cfgs 0).win w).sem s)) () = 0 := by fin_cases w <;> fin_cases s <;> rfl
    rcases t with ⟨_ | _, ht⟩
    · exact mayWait_of_lt c _ 0 0 0 (.inr (by rw [hlv]; decide)) (.inr (by rw [hlv]; decide)) (.inr (by rw [hlv]; decide))
    · exact (mayWait_end c _).trans (Entails.of_eq (by rw [owed3_end]; rfl))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution ends, with each device's arrays at the contents
    computed here and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := named m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds after the run what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.KernelIdealProof

end
-- ==== Proof.Spec.lean ====
/-
# What both programs compute, in plain sums

The scores of a token, their greatest, the soft maximum over the 32 experts, and one entry of a token's product with
one expert's matrix.
-/
module

public import proofs.«01_k».proof.KernelIdeal
public import Idealize.ShloMosaic.Lib.Pointwise

@[expose] public section

noncomputable section

namespace Cert.Mixture

open Idealize.ShloMosaic Cert.KernelIdeal

/-- The score of expert `e` for token `n`. -/
def score (X : FVec Ideal S512x256 .f32) (R : FVec Ideal S256x32 .f32) (n : Fin 512) (e : Fin 32) : EReal :=
  ∑ d : Fin 256, X (ix2 n d) * R (ix2 d e)

/-- The greatest score of token `n`. -/
def best (X : FVec Ideal S512x256 .f32) (R : FVec Ideal S256x32 .f32) (n : Fin 512) : EReal :=
  Finset.univ.fold max (Ideal.ofBits .f32 0xFF800000#32) fun e : Fin 32 => score X R n e

/-- The probability of expert `e` for token `n`. -/
def prob (X : FVec Ideal S512x256 .f32) (R : FVec Ideal S256x32 .f32) (n : Fin 512) (e : Fin 32) : EReal :=
  Ideal.div (Ideal.exp (score X R n e - best X R n)) (∑ e' : Fin 32, Ideal.exp (score X R n e' - best X R n))

/-- The probabilities of the two experts a token names, added up. -/
def pair (X : FVec Ideal S512x256 .f32) (R : FVec Ideal S256x32 .f32) (n : Fin 512) (e0 e1 : Fin 32) : EReal :=
  prob X R n e0 + prob X R n e1

/-- Entry `o` of token `n`'s product with a matrix of 256 rows. -/
def dot (X : FVec Ideal S512x256 .f32) (M : Fin 256 → Fin 512 → EReal) (n o : Fin 512) : EReal :=
  ∑ d : Fin 256, X (ix2 n d) * M d o

end Cert.Mixture

end
-- ==== Proof.Weights.lean ====
/-
# Finite scores give real, positive weights

Sums of products over extended reals: a real factor that is not negative distributes over any sum.
-/
module

public import proofs.«01_k».proof.Proof.Spec

@[expose] public section

noncomputable section

namespace Cert.Mixture

open Idealize.ShloMosaic Cert.KernelIdeal

theorem bits_neg_inf : Ideal.ofBits .f32 0xFF800000#32 = ⊥ := by simp [Ideal.ofBits, Ideal.ieee]
theorem bits_pos_inf : Ideal.ofBits .f32 0x7F800000#32 = ⊤ := by simp [Ideal.ofBits, Ideal.ieee]

/-- A finite sum of reals is a real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of 32 reals is a real. -/
theorem fold_max_coe (f : Fin 32 → ℝ) :
    ∃ r : ℝ, Finset.univ.fold max (⊥ : EReal) (fun e : Fin 32 => ((f e : ℝ) : EReal)) = (r : EReal) := by
  have h1 : Finset.univ.fold max (⊥ : EReal) (fun e : Fin 32 => ((f e : ℝ) : EReal)) ≠ ⊤ := by
    refine ne_of_lt ?_
    rw [Finset.fold_max_lt]
    exact ⟨bot_lt_top, fun e _ => EReal.coe_lt_top _⟩
  have h2 : Finset.univ.fold max (⊥ : EReal) (fun e : Fin 32 => ((f e : ℝ) : EReal)) ≠ ⊥ := by
    refine (ne_of_lt ?_).symm
    rw [Finset.lt_fold_max]
    exact Or.inr ⟨0, Finset.mem_univ _, EReal.bot_lt_coe _⟩
  exact ⟨_, (EReal.coe_toReal h1 h2).symm⟩

/-- With finite inputs every probability is a positive real. -/
theorem prob_pos (X : FVec Ideal S512x256 .f32) (R : FVec Ideal S256x32 .f32) (x : Fin 512 → Fin 256 → ℝ) (r : Fin 256 → Fin 32 → ℝ)
    (hX : ∀ n d, X (ix2 n d) = ((x n d : ℝ) : EReal)) (hR : ∀ d e, R (ix2 d e) = ((r d e : ℝ) : EReal)) (n : Fin 512) :
    ∃ p : Fin 32 → ℝ, ∀ e, 0 < p e ∧ prob X R n e = ((p e : ℝ) : EReal) := by
  have hs : ∀ e, score X R n e = ((∑ d, x n d * r d e : ℝ) : EReal) := fun e => by
    unfold score
    rw [← sum_coe]
    exact Finset.sum_congr rfl fun d _ => by rw [hX, hR, EReal.coe_mul]
  obtain ⟨b, hb⟩ := fold_max_coe fun e => ∑ d, x n d * r d e
  have hbest : best X R n = (b : EReal) := by
    unfold best
    rw [bits_neg_inf, ← hb]
    exact congrArg (Finset.univ.fold max ⊥) (funext hs)
  have he : ∀ e, Ideal.exp (score X R n e - best X R n) = ((Real.exp (∑ d, x n d * r d e - b) : ℝ) : EReal) := fun e => by
    rw [hs, hbest, ← EReal.coe_sub]
    rfl
  have hpos : 0 < ∑ e : Fin 32, Real.exp (∑ d, x n d * r d e - b) :=
    Finset.sum_pos (fun e _ => Real.exp_pos _) ⟨0, Finset.mem_univ _⟩
  refine ⟨fun e => Real.exp (∑ d, x n d * r d e - b) * (1 / ∑ e : Fin 32, Real.exp (∑ d, x n d * r d e - b)), fun e =>
    ⟨mul_pos (Real.exp_pos _) (one_div_pos.mpr hpos), ?_⟩⟩
  unfold prob
  rw [he e, show (∑ e' : Fin 32, Ideal.exp (score X R n e' - best X R n)) = ((∑ e : Fin 32, Real.exp (∑ d, x n d * r d e - b) : ℝ) : EReal)
    from by rw [← sum_coe]; exact Finset.sum_congr rfl fun e _ => he e, Ideal.div_coe hpos.ne', EReal.coe_mul]

/-- The quotient of a positive real by the sum of two is a real that is not negative. -/
theorem share (a p q : ℝ) (ha : 0 < a) (hp : 0 < p) (hq : 0 < q) :
    ∃ w : ℝ, 0 ≤ w ∧ Ideal.div (a : EReal) ((p : EReal) + (q : EReal)) = (w : EReal) :=
  ⟨a * (1 / (p + q)), (mul_pos ha (one_div_pos.mpr (add_pos hp hq))).le, by
    rw [← EReal.coe_add, Ideal.div_coe (add_pos hp hq).ne', EReal.coe_mul]⟩

/-- A real factor that is not negative comes out of a sum. -/
theorem mul_sum_real {ι : Type} (s : Finset ι) (w : ℝ) (hw : 0 ≤ w) (f : ι → EReal) :
    (w : EReal) * ∑ i ∈ s, f i = ∑ i ∈ s, (w : EReal) * f i := by
  classical
  induction s using Finset.induction_on with
  | empty => simp
  | insert a s ha ih =>
    rw [Finset.sum_insert ha, Finset.sum_insert ha,
      EReal.left_distrib_of_nonneg_of_ne_top (EReal.coe_nonneg.mpr hw) (EReal.coe_ne_top w), ih]

/-- A token's row scaled first, or the product scaled after. -/
theorem dot_scaled (X : FVec Ideal S512x256 .f32) (M : Fin 256 → Fin 512 → EReal) (n o : Fin 512) (w : ℝ) (hw : 0 ≤ w) :
    ∑ d : Fin 256, X (ix2 n d) * (w : EReal) * M d o = (w : EReal) * dot X M n o := by
  unfold dot
  rw [mul_sum_real _ _ hw]
  refine Finset.sum_congr rfl fun d _ => ?_
  rw [mul_comm (X (ix2 n d)) (w : EReal), mul_assoc]

end Cert.Mixture

end
-- ==== Proof.ShareValue.lean ====
/-
# The kernel's result, entry by entry

A device's share at a token and a column is two terms, one per expert it holds: the weighted product if the token names
that expert, zero if not. The kernel's result adds the sixteen shares up.
-/
module

public import proofs.«01_k».proof.Proof.SchedKernelIdeal
public import proofs.«01_k».proof.Proof.Weights
public import Idealize.ShloMosaic.Lib.Pointwise

@[expose] public section

noncomputable section

namespace Cert.ShareValue

open Idealize.ShloMosaic Cert.KernelIdeal Cert.KernelIdeal.Gen Cert.KernelIdealProof

/-- Two words in range are equal when their numbers are. -/
theorem cmpi_word (a b : ℕ) (ha : a < 2 ^ 32) (hb : b < 2 ^ 32) :
    IntOp.cmpi CmpIPredicate.eq (BitVec.ofNat 32 a) (BitVec.ofNat 32 b) = if a = b then 1#1 else 0#1 := by
  by_cases h : a = b
  · subst h
    rw [if_pos rfl]
    show BitVec.ofBool (BitVec.ofNat 32 a == BitVec.ofNat 32 a) = 1#1
    rw [beq_self_eq_true]; rfl
  · rw [if_neg h]
    have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    show BitVec.ofBool (BitVec.ofNat 32 a == BitVec.ofNat 32 b) = 0#1
    rw [beq_eq_false_iff_ne.mpr hne]; rfl

/-- A sum in which one expert's entry is kept. -/
theorem sum_kept (f : Fin 32 → EReal) (g : Fin 32) :
    ∑ x : Fin 32, Scalar.select (IntOp.cmpi CmpIPredicate.eq (BitVec.ofNat 32 x.val) (BitVec.ofNat 32 g.val)) (f x) 0 = f g := by
  rw [Finset.sum_eq_single g]
  · rw [cmpi_word _ _ (by omega) (by omega), if_pos rfl]; rfl
  · intro x _ hx
    rw [cmpi_word _ _ (by omega) (by omega), if_neg (fun h => hx (Fin.ext h))]; rfl
  · exact fun h => absurd (Finset.mem_univ _) h

theorem probs_at (X : Vec Ideal S512x256 .f32) (R : Vec Ideal S256x32 .f32) (n : Fin 512) (e : Fin 32) :
    k0_pay2 (F := Ideal) X R (ix2 n e) = Mixture.prob X R n e := by
  pointwise [k0_pay2, k0_pay1, Mixture.prob, Mixture.best, Mixture.score]

theorem pair_at (X : Vec Ideal S512x256 .f32) (R : Vec Ideal S256x32 .f32) (i0 i1 : Vec Ideal S512x1 .i32) (n : Fin 512) (e0 e1 : Fin 32)
    (h0 : i0 (ix2 n 0) = BitVec.ofNat 32 e0.val) (h1 : i1 (ix2 n 0) = BitVec.ofNat 32 e1.val) :
    k0_pay5 (F := Ideal) (k0_pay2 X R) i0 i1 (ix2 n 0) = Mixture.pair X R n e0 e1 := by
  unfold Mixture.pair
  rw [← probs_at, ← probs_at]
  generalize k0_pay2 (F := Ideal) X R = P
  pointwise [k0_pay5, k0_pay3, k0_pay4]
  rw [h0, h1]
  exact congrArg₂ (· + ·) (sum_kept (fun x => P (ix2 n x)) e0) (sum_kept (fun x => P (ix2 n x)) e1)

/-- One expert's term: its weighted product for the tokens that name it. -/
def term (X : Vec Ideal S512x256 .f32) (R : Vec Ideal S256x32 .f32) (M : Fin 256 → Fin 512 → EReal) (n o : Fin 512) (e0 e1 g : Fin 32) : EReal :=
  if g = e0 ∨ g = e1 then Ideal.div (Mixture.prob X R n g) (Mixture.pair X R n e0 e1) * Mixture.dot X M n o else 0

/-- The choice of the kernel: the token names expert `g`. -/
theorem names_word (e0 e1 g : Fin 32) :
    IntOp.ori (IntOp.cmpi CmpIPredicate.eq (BitVec.ofNat 32 e0.val) (BitVec.ofNat 32 g.val))
      (IntOp.cmpi CmpIPredicate.eq (BitVec.ofNat 32 e1.val) (BitVec.ofNat 32 g.val)) = if g = e0 ∨ g = e1 then 1#1 else 0#1 := by
  rw [cmpi_word _ _ (by omega) (by omega), cmpi_word _ _ (by omega) (by omega)]
  by_cases h0 : g = e0
  · rw [if_pos (congrArg Fin.val h0.symm), if_pos (Or.inl h0)]
    split <;> rfl
  · rw [if_neg fun h => h0 (Fin.ext h.symm)]
    by_cases h1 : g = e1
    · rw [if_pos (congrArg Fin.val h1.symm), if_pos (Or.inr h1)]; rfl
    · rw [if_neg fun h => h1 (Fin.ext h.symm), if_neg (by rintro (h | h) <;> contradiction)]; rfl

/-- The kernel's sum for one expert, with the weight on the token's row, is that expert's term. -/
theorem term_of_sum (X : Vec Ideal S512x256 .f32) (R : Vec Ideal S256x32 .f32) (M : Fin 256 → Fin 512 → EReal) (n o : Fin 512) (e0 e1 g : Fin 32)
    (hw : ∃ w : ℝ, 0 ≤ w ∧ Ideal.div (Mixture.prob X R n g) (Mixture.pair X R n e0 e1) = (w : EReal)) :
    ∑ d : Fin 256, Scalar.select
        (IntOp.ori (IntOp.cmpi CmpIPredicate.eq (BitVec.ofNat 32 e0.val) (BitVec.ofNat 32 g.val))
          (IntOp.cmpi CmpIPredicate.eq (BitVec.ofNat 32 e1.val) (BitVec.ofNat 32 g.val)))
        (X (ix2 n d) * Ideal.div (Mixture.prob X R n g) (Mixture.pair X R n e0 e1) * M d o) 0 = term X R M n o e0 e1 g := by
  obtain ⟨w, hw0, hw⟩ := hw
  unfold term
  rw [names_word, hw]
  by_cases h : g = e0 ∨ g = e1
  · rw [if_pos h, if_pos h, ← Mixture.dot_scaled X M n o w hw0]
    exact Finset.sum_congr rfl fun d _ => rfl
  · rw [if_neg h, if_neg h]
    exact Finset.sum_eq_zero fun d _ => rfl

/-- One device's share at an entry. -/
theorem share_at (q : BitVec 32) (X : Vec Ideal S512x256 .f32) (R : Vec Ideal S256x32 .f32) (i0 i1 : Vec Ideal S512x1 .i32)
    (W0 W1 : Vec Ideal S1x256x512 .f32) (n o : Fin 512) (e0 e1 g0 g1 : Fin 32)
    (h0 : i0 (ix2 n 0) = BitVec.ofNat 32 e0.val) (h1 : i1 (ix2 n 0) = BitVec.ofNat 32 e1.val)
    (hq0 : Scalar.addi (Scalar.muli q 2#32) 0#32 = BitVec.ofNat 32 g0.val) (hq1 : Scalar.addi (Scalar.muli q 2#32) 1#32 = BitVec.ofNat 32 g1.val)
    (hw : ∀ g, ∃ w : ℝ, 0 ≤ w ∧ Ideal.div (Mixture.prob X R n g) (Mixture.pair X R n e0 e1) = (w : EReal)) :
    k0_pay7 (F := Ideal) q (k0_pay1 X) (k0_pay2 X R) (k0_pay3 i0) (k0_pay4 i1) (iota .tc S512x32 32 [1] iota_S512x32_d1_w32)
      (k0_pay5 (k0_pay2 X R) i0 i1) (k0_pay6 q (k0_pay1 X) (k0_pay2 X R) i0 i1 W0) 2#32 W1 (ix2 n o)
      = term X R (fun d o => W0 (ix3 0 d o)) n o e0 e1 g0 + term X R (fun d o => W1 (ix3 0 d o)) n o e0 e1 g1 := by
  rw [← term_of_sum X R _ n o e0 e1 g0 (hw g0), ← term_of_sum X R _ n o e0 e1 g1 (hw g1),
    ← pair_at X R i0 i1 n e0 e1 h0 h1, ← probs_at, ← probs_at]
  generalize k0_pay2 (F := Ideal) X R = P
  have hk (g : Fin 32) : ∑ x : Fin 32, Scalar.select (IntOp.cmpi CmpIPredicate.eq (BitVec.ofNat 32 x.val) (BitVec.ofNat 32 g.val)) (P (ix2 n x)) 0 = P (ix2 n g) :=
    sum_kept (fun x => P (ix2 n x)) g
  pointwise [k0_pay7, k0_pay6, k0_pay1, k0_pay3, k0_pay4]
  rw [h0, h1, hq0, hq1, hk, hk]

/-- The words of a device's two experts. -/
theorem place_word (c : Fin nD) (j : Fin 2) :
    Scalar.addi (Scalar.muli (place c) 2#32) (BitVec.ofNat 32 j.val) = BitVec.ofNat 32 (2 * c.val + j.val) := by
  revert c j; decide +kernel

theorem rowOf_divmod (n : Fin 512) : rowOf ⟨n.val / 32, by omega⟩ ⟨n.val % 32, by omega⟩ = n := by
  apply Fin.ext; simp only [rowOf]; omega

/-- The result adds the sixteen shares. -/
theorem out_sum (m : (ℓ : Loc nD τ sig) → Buf (Elt Ideal) ℓ) (n o : Fin 512) :
    outC m (ix2 n o) = ∑ c : Fin 16, partC m c (ix2 n o) := by
  have h12 (V : Vec Ideal S16x32x512 .bf16) :
      k0_pay12 (F := Ideal) V (ix2 n o) = V (ix3 ⟨n.val / 32, by omega⟩ ⟨n.val % 32, by omega⟩ o) := by
    pointwise [k0_pay12]
  have h10 (V : Vec Ideal S16x32x512 .bf16) (a : Fin 32) : k0_pay10 (F := Ideal) V (ix2 a o) = ∑ x : Fin 16, V (ix3 x a o) := by
    pointwise [k0_pay10, k0_pay9]
  unfold outC
  rw [h12]
  show redC m (⟨n.val / 32, by omega⟩ : Fin 16) (ValueIdx.ix2 ⟨n.val % 32, by omega⟩ o) = _
  rw [← ix2_eq_valueIdx]
  unfold redC
  rw [h10]
  refine Finset.sum_congr rfl fun c _ => ?_
  show partC m c (ValueIdx.ix2 (rowOf ⟨n.val / 32, by omega⟩ ⟨n.val % 32, by omega⟩) o) = _
  rw [rowOf_divmod, ← ix2_eq_valueIdx]

/-- Two terms per device are one term per expert, and a token names two. -/
theorem sum_named (f : Fin 32 → EReal) (e0 e1 : Fin 32) (hne : e0 ≠ e1) (hf : ∀ g, ¬(g = e0 ∨ g = e1) → f g = 0) :
    ∑ c : Fin 16, (f ⟨2 * c.val, by omega⟩ + f ⟨2 * c.val + 1, by omega⟩) = f e0 + f e1 := by
  rw [← Finset.sum_pair hne, Finset.sum_subset (Finset.subset_univ _) fun g _ hg => hf g fun h => hg (by simpa using h)]
  rw [← Equiv.sum_comp (finProdFinEquiv (m := 16) (n := 2)) f, Fintype.sum_prod_type]
  refine Finset.sum_congr rfl fun c _ => ?_
  rw [Fin.sum_univ_two]
  exact congrArg₂ (· + ·) (congrArg f (Fin.ext (by simp [finProdFinEquiv]))) (congrArg f (Fin.ext (by simp [finProdFinEquiv]; omega)))

end Cert.ShareValue

end
-- ==== Proof.RefValue.lean ====
/-
# The reference's result, entry by entry

The reference's composed term is cut in named pieces; each is read at an entry. A token's expert index below 32 is not
moved by the wrap of negative indices nor by the clamp of the gather.
-/
module

public import proofs.«01_k».proof.Proof.Gen.ReferenceIdeal.Run
public import proofs.«01_k».proof.Proof.Spec
public import Idealize.ShloMosaic.Lib.Pointwise

@[expose] public section

noncomputable section

namespace Cert.RefValue

open Idealize.ShloMosaic Cert.ReferenceIdeal Cert.ReferenceIdeal.Value Cert.ReferenceIdeal.Facts₀

/-- The probabilities. -/
def probsT (X : FVec Ideal S512x256 .f32) (R : FVec Ideal S256x32 .f32) : FVec Ideal S512x32 .f32 :=
  let s : FVec Ideal S512x32 .f32 := Host.dotGeneral dot_S512x256_S256x32_S512x32_1_0_0_1_n_n none X R
  let e : FVec Ideal S512x32 .f32 := Host.exp (subf s (broadcastInDim S512x32 ![0, 1] bcast_S512x1_S512x32_0_1
    (broadcastInDim S512x1 ![0] bcast_S512_S512x1_0
      (Host.reduce FloatOps.maximumf s (constant (F := Ideal) S_ .f32 0xFF800000#32) reducesTo_S512x32_S512_d1 h_S_))))
  Host.divf e (broadcastInDim S512x32 ![0, 1] bcast_S512x1_S512x32_0_1 (broadcastInDim S512x1 ![0] bcast_S512_S512x1_0
    (Host.reduceAdd e (constant (F := Ideal) S_ .f32 0x00000000#32) reducesTo_S512x32_S512_d1 h_S_)))

/-- The wrap of negative indices: `add` added to a negative one. -/
def wrapT (add : BitVec 32) (v : IVec S512 32) : IVec S512 32 :=
  select (cmpi .slt v (broadcastInDim S512 ![] bcast_S_S512 (constantI S_ 32 0#32)))
    (addi v (broadcastInDim S512 ![] bcast_S_S512 (constantI S_ 32 add))) v

/-- The indices as a column. -/
def colT (add : BitVec 32) (v : IVec S512 32) : IVec S512x1 32 :=
  broadcastInDim S512x1 ![0] bcast_S512_S512x1_0 (wrapT add v)

/-- Each token's probability of the expert it names. -/
def gateT (P : FVec Ideal S512x32 .f32) (v : IVec S512 32) : FVec Ideal S512x1 .f32 :=
  broadcastInDim S512x1 ![0] bcast_S512_S512x1_0
    (Host.gather gather_S512x32_S512x2_S512_n_01_n_n_01_1_11 P
      (concatenate S512x2 1 [⟨S512x1, colT 512#32 (iotaInDim S512 32 0)⟩, ⟨S512x1, colT 32#32 v⟩] concatenates_S512x1_S512x1_S512x2_d1))

/-- Each token's product with the expert it names. -/
def expertT (X : FVec Ideal S512x256 .f32) (W : FVec Ideal S32x256x512 .f32) (v : IVec S512 32) : FVec Ideal S512x512 .f32 :=
  Host.dotGeneral dot_S512x256_S512x256x512_S512x512_1_1_n_2_0_0 none X
    (Host.gather gather_S32x256x512_S512x1_S512x256x512_12_0_n_n_0_1_1256512 W (colT 32#32 v))

/-- The first and the second expert of each token. -/
def firstT (I : IVec S512x2 32) : IVec S512 32 :=
  shapeCast S512 (extractStridedSlice S512x1 ![0, 0] I slices_S512x2_S512x1_0_0) shapeCasts_S512x1_S512
def secondT (I : IVec S512x2 32) : IVec S512 32 :=
  shapeCast S512 (extractStridedSlice S512x1 ![0, 1] I slices_S512x2_S512x1_0_1) shapeCasts_S512x1_S512

/-- One expert's weighted product. -/
def termT (g gs : FVec Ideal S512x1 .f32) (y : FVec Ideal S512x512 .f32) : FVec Ideal S512x512 .f32 :=
  mulf (broadcastInDim S512x512 ![0, 1] bcast_S512x1_S512x512_0_1 (Host.divf g gs)) y

/-- The reference's result as a function of its arguments. -/
def resT (X : FVec Ideal S512x256 .f32) (R : FVec Ideal S256x32 .f32) (I : IVec S512x2 32) (W : FVec Ideal S32x256x512 .f32) :
    FVec Ideal S512x512 .f32 :=
  addf
    (termT (gateT (probsT X R) (firstT I)) (addf (gateT (probsT X R) (firstT I)) (gateT (probsT X R) (secondT I))) (expertT X W (firstT I)))
    (termT (gateT (probsT X R) (secondT I)) (addf (gateT (probsT X R) (firstT I)) (gateT (probsT X R) (secondT I))) (expertT X W (secondT I)))

set_option maxRecDepth 16384 in
theorem res_eq (m : (ℓ : Loc nD τ sig) → Buf (Elt Ideal) ℓ) (c : Dev nD) :
    res_main_v68 (F := Ideal) m c = resT (m ((c.tc : Thread nD τ).loc main_arg0)) (m ((c.tc : Thread nD τ).loc main_arg1))
      (m ((c.tc : Thread nD τ).loc main_arg2)) (m ((c.tc : Thread nD τ).loc main_arg3)) := rfl

theorem probsT_at (X : FVec Ideal S512x256 .f32) (R : FVec Ideal S256x32 .f32) (n : Fin 512) (e : Fin 32) :
    probsT X R (ix2 n e) = Mixture.prob X R n e := by
  pointwise [probsT, Mixture.prob, Mixture.best, Mixture.score]

theorem firstT_at (I : IVec S512x2 32) (n : Fin 512) : firstT I (ix1 n) = I (ix2 n 0) := by pointwise [firstT]
theorem secondT_at (I : IVec S512x2 32) (n : Fin 512) : secondT I (ix1 n) = I (ix2 n 1) := by pointwise [secondT]

/-- A word below `2 ^ 31` is not wrapped. -/
theorem colT_at (add : BitVec 32) (v : IVec S512 32) (n : Fin 512) (k : ℕ) (hk : k < 2 ^ 31) (hv : v (ix1 n) = BitVec.ofNat 32 k) :
    colT add v (ix2 n 0) = BitVec.ofNat 32 k := by
  pointwise [colT, wrapT]
  rw [hv]
  have h0 : IntOp.cmpi CmpIPredicate.slt (BitVec.ofNat 32 k) 0#32 = 0#1 := by
    have hlt : (BitVec.ofNat 32 k).slt 0#32 = false := by
      rw [BitVec.slt_eq_decide, decide_eq_false_iff_not]
      have h1 : (BitVec.ofNat 32 k).toInt = (k : ℤ) := by
        rw [BitVec.toInt_ofNat']
        exact Int.bmod_eq_of_le (by omega) (by omega)
      rw [h1, show (0#32 : BitVec 32).toInt = 0 from rfl]
      omega
    show BitVec.ofBool ((BitVec.ofNat 32 k).slt 0#32) = 0#1
    rw [hlt]; rfl
  rw [h0]
  rfl

/-- The clamp of the gather does not move a word in range. -/
theorem clamp_word (a N : ℕ) (h : a < N) (hN : N ≤ 512) : min (BitVec.ofNat 32 a).toInt.toNat (N - 1) + 0 + 0 = a := by
  have h1 : (BitVec.ofNat 32 a).toInt = (a : ℤ) := by
    rw [BitVec.toInt_ofNat']
    exact Int.bmod_eq_of_le (by omega) (by omega)
  rw [h1, Int.toNat_natCast]
  omega

theorem gather_pair (P : FVec Ideal S512x32 .f32) (J : IVec S512x2 32) (n : Fin 512) (a : Fin 512) (b : Fin 32)
    (ha : J (ix2 n 0) = BitVec.ofNat 32 a.val) (hb : J (ix2 n 1) = BitVec.ofNat 32 b.val) :
    Host.gather gather_S512x32_S512x2_S512_n_01_n_n_01_1_11 P J (ix1 n) = P (ix2 a b) := by
  unfold Host.gather
  refine congrArg P (funext fun q => Fin.ext ?_)
  match q with
  | ⟨0, _⟩ =>
    show min (J _).toInt.toNat (512 - 1) + 0 + 0 = a.val
    have hi : GatherDims.siIdx gather_S512x32_S512x2_S512_n_01_n_n_01_1_11 (ix1 n) ⟨0, by decide⟩ = ix2 n 0 := by
      funext b
      match b with
      | ⟨0, _⟩ => rfl
      | ⟨1, _⟩ => rfl
    refine Eq.trans ?_ (clamp_word a.val 512 a.isLt (by omega))
    exact congrArg (fun w : BitVec 32 => min w.toInt.toNat (512 - 1) + 0 + 0) ((congrArg J hi).trans ha)
  | ⟨1, _⟩ =>
    show min (J _).toInt.toNat (32 - 1) + 0 + 0 = b.val
    have hi : GatherDims.siIdx gather_S512x32_S512x2_S512_n_01_n_n_01_1_11 (ix1 n) ⟨1, by decide⟩ = ix2 n 1 := by
      funext b
      match b with
      | ⟨0, _⟩ => rfl
      | ⟨1, _⟩ => rfl
    refine Eq.trans ?_ (clamp_word b.val 32 b.isLt (by omega))
    exact congrArg (fun w : BitVec 32 => min w.toInt.toNat (32 - 1) + 0 + 0) ((congrArg J hi).trans hb)

theorem gather_expert (W : FVec Ideal S32x256x512 .f32) (J : IVec S512x1 32) (n : Fin 512) (d : Fin 256) (o : Fin 512) (b : Fin 32)
    (hb : J (ix2 n 0) = BitVec.ofNat 32 b.val) :
    Host.gather gather_S32x256x512_S512x1_S512x256x512_12_0_n_n_0_1_1256512 W J (ix3 n d o) = W (ix3 b d o) := by
  unfold Host.gather
  refine congrArg W (funext fun q => Fin.ext ?_)
  match q with
  | ⟨0, _⟩ =>
    show min (J _).toInt.toNat (32 - 1) + 0 + 0 = b.val
    have hi : GatherDims.siIdx gather_S32x256x512_S512x1_S512x256x512_12_0_n_n_0_1_1256512 (ix3 n d o) ⟨0, by decide⟩ = ix2 n 0 := by
      funext b
      match b with
      | ⟨0, _⟩ => rfl
      | ⟨1, _⟩ => rfl
    refine Eq.trans ?_ (clamp_word b.val 32 b.isLt (by omega))
    exact congrArg (fun w : BitVec 32 => min w.toInt.toNat (32 - 1) + 0 + 0) ((congrArg J hi).trans hb)
  | ⟨1, _⟩ => show 0 + 0 + _ = d.val; rw [Nat.zero_add]; rfl
  | ⟨2, _⟩ => show 0 + 0 + _ = o.val; rw [Nat.zero_add]; rfl

theorem gateT_at (P : FVec Ideal S512x32 .f32) (v : IVec S512 32) (n : Fin 512) (b : Fin 32) (hb : v (ix1 n) = BitVec.ofNat 32 b.val) :
    gateT P v (ix2 n 0) = P (ix2 n b) := by
  have h := gather_pair P
    (concatenate S512x2 1 [⟨S512x1, colT 512#32 (iotaInDim S512 32 0)⟩, ⟨S512x1, colT 32#32 v⟩] concatenates_S512x1_S512x1_S512x2_d1)
    n n b ?_ ?_
  · refine Eq.trans ?_ h
    pointwise [gateT]
  · have h0 := colT_at 512#32 (iotaInDim S512 32 0) n n.val (by omega) (by pointwise [])
    pointwise []
    exact h0
  · have h1 := colT_at 32#32 v n b.val (by omega) hb
    pointwise []
    exact h1

theorem expertT_at (X : FVec Ideal S512x256 .f32) (W : FVec Ideal S32x256x512 .f32) (v : IVec S512 32) (n o : Fin 512) (b : Fin 32)
    (hb : v (ix1 n) = BitVec.ofNat 32 b.val) : expertT X W v (ix2 n o) = Mixture.dot X (fun d o => W (ix3 b d o)) n o := by
  have h1 := colT_at 32#32 v n b.val (by omega) hb
  unfold expertT Mixture.dot
  generalize hG : Host.gather gather_S32x256x512_S512x1_S512x256x512_12_0_n_n_0_1_1256512 W (colT 32#32 v) = G
  pointwise []
  refine Finset.sum_congr rfl fun d _ => ?_
  rw [← hG, gather_expert W _ n d o b h1]

/-- The reference's entry: the two experts' products, each weighted by its share of the pair's probability. -/
theorem resT_at (X : FVec Ideal S512x256 .f32) (R : FVec Ideal S256x32 .f32) (I : IVec S512x2 32) (W : FVec Ideal S32x256x512 .f32)
    (n o : Fin 512) (e0 e1 : Fin 32) (h0 : I (ix2 n 0) = BitVec.ofNat 32 e0.val) (h1 : I (ix2 n 1) = BitVec.ofNat 32 e1.val) :
    resT X R I W (ix2 n o) =
      Ideal.div (Mixture.prob X R n e0) (Mixture.pair X R n e0 e1) * Mixture.dot X (fun d o => W (ix3 e0 d o)) n o
        + Ideal.div (Mixture.prob X R n e1) (Mixture.pair X R n e0 e1) * Mixture.dot X (fun d o => W (ix3 e1 d o)) n o := by
  have g0 := (gateT_at (probsT X R) (firstT I) n e0 ((firstT_at I n).trans h0)).trans (probsT_at X R n e0)
  have g1 := (gateT_at (probsT X R) (secondT I) n e1 ((secondT_at I n).trans h1)).trans (probsT_at X R n e1)
  have y0 := expertT_at X W (firstT I) n o e0 ((firstT_at I n).trans h0)
  have y1 := expertT_at X W (secondT I) n o e1 ((secondT_at I n).trans h1)
  unfold Mixture.pair
  rw [← g0, ← g1, ← y0, ← y1]
  unfold resT termT
  generalize gateT (probsT X R) (firstT I) = G0
  generalize gateT (probsT X R) (secondT I) = G1
  generalize expertT X W (firstT I) = Y0
  generalize expertT X W (secondT I) = Y1
  pointwise []

end Cert.RefValue

end
-- ==== Proof.Equation.lean ====
/-
# The kernel's result is the reference's

The arguments as the kernel's loads read them, the precondition read at one token, and the two results compared entry by
entry.
-/
module

public import proofs.«01_k».proof.Defs
public import proofs.«01_k».proof.Proof.Gen.Pre_routed_KernelIdeal
public import proofs.«01_k».proof.Proof.Gen.ReferenceIdeal.Run
public import proofs.«01_k».proof.Proof.LaunchKernelIdeal
public import proofs.«01_k».proof.Proof.ShareValue
public import proofs.«01_k».proof.Proof.RefValue
public import Idealize.ShloMosaic.Lib.LayoutAt

@[expose] public section

noncomputable section

namespace Cert.Equation

open Idealize.ShloMosaic Cert.KernelIdeal Cert.KernelIdeal.Gen Cert.KernelIdealProof
open Idealize.ShloMosaic.TcCoe

variable (m : (ℓ : Loc nD τ sig) → Buf (Elt Ideal) ℓ) (ρ : Dev nD → PrngReg)

/-! ## Blocks that are the whole array -/

theorem xstg0_eq (c : Dev nD) : xstg0 m c = m ((c : Thread nD τ).loc main_arg0) :=
  Memref.read_access_unit_zero (Elt Ideal) main_arg0 (funext fun a => by fin_cases a <;> decide) (fun a => by fin_cases a <;> decide) _
theorem xstg1_eq (c : Dev nD) : xstg1 m c = m ((c : Thread nD τ).loc main_arg1) :=
  Memref.read_access_unit_zero (Elt Ideal) main_arg1 (funext fun a => by fin_cases a <;> decide) (fun a => by fin_cases a <;> decide) _
theorem xstg2_eq (c : Dev nD) : xstg2 m c = m ((c : Thread nD τ).loc main_arg2) :=
  Memref.read_access_unit_zero (Elt Ideal) main_arg2 (funext fun a => by fin_cases a <;> decide) (fun a => by fin_cases a <;> decide) _
theorem xstg3_eq (c : Dev nD) : xstg3 m c = m ((c : Thread nD τ).loc main_arg3) :=
  Memref.read_access_unit_zero (Elt Ideal) main_arg3 (funext fun a => by fin_cases a <;> decide) (fun a => by fin_cases a <;> decide) _

theorem ldX_eq (c : Dev nD) : ldX m c = m ((c : Thread nD τ).loc main_arg0) := by
  refine Eq.trans ?_ (xstg0_eq m c); unfold ldX
  rw [View.readAt_eq_ld]
  exact View.ld_unit_zero (funext fun a => by fin_cases a <;> rfl) _ _
theorem ldR_eq (c : Dev nD) : ldR m c = m ((c : Thread nD τ).loc main_arg1) := by
  refine Eq.trans ?_ (xstg1_eq m c); unfold ldR
  rw [View.readAt_eq_ld]
  exact View.ld_unit_zero (funext fun a => by fin_cases a <;> rfl) _ _
theorem ldI0_at (c : Dev nD) (n : Fin 512) : ldI0 m c (ix2 n 0) = (m ((c : Thread nD τ).loc main_arg2) : Vec Ideal S512x2 .i32) (ix2 n 0) := by
  refine Eq.trans ?_ (congrFun (xstg2_eq m c) (ix2 n 0)); unfold ldI0
  rw [View.readAt_eq_ld]
  pointwise
  rfl
theorem ldI1_at (c : Dev nD) (n : Fin 512) : ldI1 m c (ix2 n 0) = (m ((c : Thread nD τ).loc main_arg2) : Vec Ideal S512x2 .i32) (ix2 n 1) := by
  refine Eq.trans ?_ (congrFun (xstg2_eq m c) (ix2 n 1)); unfold ldI1
  rw [View.readAt_eq_ld]
  pointwise
  rfl
theorem ldW0_at (c : Dev nD) (d : Fin 256) (o : Fin 512) :
    ldW0 m c (ix3 0 d o) = (m ((c : Thread nD τ).loc main_arg3) : Vec Ideal S2x256x512 .f32) (ix3 0 d o) := by
  refine Eq.trans ?_ (congrFun (xstg3_eq m c) (ix3 0 d o)); unfold ldW0
  rw [View.readAt_eq_ld]
  pointwise
  rfl
theorem ldW1_at (c : Dev nD) (d : Fin 256) (o : Fin 512) :
    ldW1 m c (ix3 0 d o) = (m ((c : Thread nD τ).loc main_arg3) : Vec Ideal S2x256x512 .f32) (ix3 1 d o) := by
  refine Eq.trans ?_ (congrFun (xstg3_eq m c) (ix3 1 d o)); unfold ldW1
  rw [View.readAt_eq_ld]
  pointwise
  rfl

/-- The result array after the run. -/
theorem finalA_out (c : Dev nD) : finalA m ρ c (4 : Fin 5) = outC m := by
  have hz : (fun a => (win0_4.index (0 : Fin 1)) a * main_v1.ty.shape.size a) = fun _ => 0 :=
    funext fun a => by fin_cases a <;> decide
  have hr := fun f => Memref.read_access_unit_zero (Elt Ideal) main_v1 hz (fun a => by fin_cases a <;> decide) f
  have h : (win0_4.blk (0 : Fin 1)).view.read (Elt Ideal) (finalA m ρ c (4 : Fin 5)) = outC m := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  rw [hr] at h
  exact h

/-! ## The precondition at one token -/

theorem bit_and {a b : BitVec 1} (h : IntOp.andi a b = 1#1) : a = 1#1 ∧ b = 1#1 := by
  revert a b; decide

theorem bit_of {p : Prop} [Decidable p] (h : BitVec.ofBool (decide p) = 1#1) : p := by
  by_contra hp
  rw [decide_eq_false hp] at h
  exact absurd h (by decide)

/-- A word from 0 to 31 is an expert's. -/
theorem word_expert (i : BitVec 32) (h0 : IntOp.cmpi CmpIPredicate.sge i 0#32 = 1#1) (h1 : IntOp.cmpi CmpIPredicate.slt i 32#32 = 1#1) :
    ∃ e : Fin 32, i = BitVec.ofNat 32 e.val := by
  have a0 : (0#32).toInt ≤ i.toInt := bit_of h0
  have a1 : i.toInt < (32#32).toInt := bit_of h1
  rw [show (0#32).toInt = 0 from rfl] at a0
  rw [show (32#32).toInt = 32 from rfl] at a1
  have hi := BitVec.toInt_eq_toNat_cond i
  have hlt : i.toNat < 32 := by have := i.isLt; split at hi <;> omega
  exact ⟨⟨i.toNat, hlt⟩, (BitVec.ofNat_toNat 32 i).symm.trans (by simp)⟩

/-- A number whose absolute value is under the infinite one is real. -/
theorem real_of_abs (a : EReal) (h : max a (-a) < ⊤) : a = ((a.toReal : ℝ) : EReal) := by
  refine (EReal.coe_toReal ?_ ?_).symm
  · rintro rfl; simp at h
  · rintro rfl; simp at h

/-- The precondition at a token: two different experts, and real entries. -/
theorem pre_at [Cert.Pre_routed_KernelIdeal.Facts] (X : Vec Ideal S512x256 .f32) (R : Vec Ideal S256x32 .f32) (I : Vec Ideal S512x2 .i32) (W : Vec Ideal S2x256x512 .f32)
    (h : Cert.Pre_routed_KernelIdeal.fn (F := Ideal) X R I W = fun _ => 1#1) (n : Fin 512) (d : Fin 256) (e : Fin 32) :
    (∃ e0 e1 : Fin 32, e0 ≠ e1 ∧ I (ix2 n 0) = BitVec.ofNat 32 e0.val ∧ I (ix2 n 1) = BitVec.ofNat 32 e1.val)
      ∧ X (ix2 n d) = (((X (ix2 n d) : EReal).toReal : ℝ) : EReal) ∧ R (ix2 d e) = (((R (ix2 d e) : EReal).toReal : ℝ) : EReal) := by
  have h := congrFun h (ix3 n d e)
  pointwise [Cert.Pre_routed_KernelIdeal.fn, Cert.Pre_routed_KernelIdeal.fn_part1] at h
  obtain ⟨h, hf⟩ := bit_and h
  obtain ⟨hx, hr⟩ := bit_and hf
  obtain ⟨h, hne⟩ := bit_and h
  obtain ⟨h, b1⟩ := bit_and h
  obtain ⟨h, b0⟩ := bit_and h
  obtain ⟨a0, a1⟩ := bit_and h
  obtain ⟨e0, h0⟩ := word_expert _ a0 a1
  obtain ⟨e1, h1⟩ := word_expert _ b0 b1
  refine ⟨⟨e0, e1, ?_, h0, h1⟩, ?_, ?_⟩
  · rintro rfl
    rw [h0, h1] at hne
    revert hne
    show ¬ (BitVec.ofBool (BitVec.ofNat 32 e0.val != BitVec.ofNat 32 e0.val) = 1#1)
    rw [bne_self_eq_false]; decide
  · have := bit_of hx
    rw [Mixture.bits_pos_inf] at this
    exact real_of_abs _ this
  · have := bit_of hr
    rw [Mixture.bits_pos_inf] at this
    exact real_of_abs _ this

/-! ## The two results -/

/-- Device `c`'s share at an entry. -/
theorem part_at (X : Vec Ideal S512x256 .f32) (R : Vec Ideal S256x32 .f32) (I : Vec Ideal S512x2 .i32) (W : Vec Ideal ⟨3, ![32, 256, 512]⟩ .f32)
    (c : Dev nD) (hX : m ((c : Thread nD τ).loc main_arg0) = X) (hR : m ((c : Thread nD τ).loc main_arg1) = R) (hI : m ((c : Thread nD τ).loc main_arg2) = I)
    (hW : m ((c : Thread nD τ).loc main_arg3) = Layout.block ⟨3, ![2, 256, 512]⟩ ⟨3, ![32, 256, 512]⟩ 0 16 c W)
    (n o : Fin 512) (e0 e1 : Fin 32) (h0 : I (ix2 n 0) = BitVec.ofNat 32 e0.val) (h1 : I (ix2 n 1) = BitVec.ofNat 32 e1.val)
    (hw : ∀ g, ∃ w : ℝ, 0 ≤ w ∧ Ideal.div (Mixture.prob X R n g) (Mixture.pair X R n e0 e1) = (w : EReal)) (g0 g1 : Fin 32)
    (hg0 : g0.val = 2 * c.val) (hg1 : g1.val = 2 * c.val + 1) :
    partC m c (ix2 n o) = ShareValue.term X R (fun d o => W (ix3 g0 d o)) n o e0 e1 g0 + ShareValue.term X R (fun d o => W (ix3 g1 d o)) n o e0 e1 g1 := by
  have i0 : ldI0 m c (ix2 n 0) = BitVec.ofNat 32 e0.val := (ldI0_at m c n).trans ((congrFun hI (ix2 n 0)).trans h0)
  have i1 : ldI1 m c (ix2 n 0) = BitVec.ofNat 32 e1.val := (ldI1_at m c n).trans ((congrFun hI (ix2 n 1)).trans h1)
  have w0 : (fun d o => ldW0 m c (ix3 0 d o)) = fun d o => W (ix3 g0 d o) := funext fun d => funext fun o =>
    (ldW0_at m c d o).trans ((congrFun hW (ix3 0 d o)).trans (by shard_ext))
  have w1 : (fun d o => ldW1 m c (ix3 0 d o)) = fun d o => W (ix3 g1 d o) := funext fun d => funext fun o =>
    (ldW1_at m c d o).trans ((congrFun hW (ix3 1 d o)).trans (by shard_ext))
  have q0 : Scalar.addi (Scalar.muli (place c) 2#32) 0#32 = BitVec.ofNat 32 g0.val := by
    rw [hg0]; exact ShareValue.place_word c 0
  have q1 : Scalar.addi (Scalar.muli (place c) 2#32) 1#32 = BitVec.ofNat 32 g1.val := by
    rw [hg1]; exact ShareValue.place_word c 1
  unfold partC
  rw [ldX_eq, ldR_eq, hX, hR, ← w0, ← w1]
  exact ShareValue.share_at (place c) X R _ _ _ _ n o e0 e1 g0 g1 i0 i1 q0 q1 hw

theorem out_eq (X : Vec Ideal S512x256 .f32) (R : Vec Ideal S256x32 .f32) (I : Vec Ideal S512x2 .i32) (W : Vec Ideal ⟨3, ![32, 256, 512]⟩ .f32)
    (hpre : Cert.Pre_KernelIdeal_routed_KernelIdeal m)
    (hX : ∀ c : Dev nD, m ((c : Thread nD τ).loc main_arg0) = X) (hR : ∀ c : Dev nD, m ((c : Thread nD τ).loc main_arg1) = R)
    (hI : ∀ c : Dev nD, m ((c : Thread nD τ).loc main_arg2) = I)
    (hW : ∀ c : Dev nD, m ((c : Thread nD τ).loc main_arg3) = Layout.block ⟨3, ![2, 256, 512]⟩ ⟨3, ![32, 256, 512]⟩ 0 16 c W) :
    outC m = RefValue.resT X R I W := by
  have hp := hpre (0 : Fin 16)
  rw [hX, hR, hI] at hp
  have hat := pre_at X R I _ hp
  funext j
  obtain ⟨n, o, rfl⟩ : ∃ n o : Fin 512, j = ix2 n o := ⟨j 0, j 1, (eq_ix2 j)⟩
  obtain ⟨e0, e1, hne, h0, h1⟩ := (hat n 0 0).1
  obtain ⟨p, hprob⟩ := Mixture.prob_pos X R _ _ (fun n d => (hat n d 0).2.1) (fun d e => (hat n d e).2.2) n
  have hw : ∀ g, ∃ w : ℝ, 0 ≤ w ∧ Ideal.div (Mixture.prob X R n g) (Mixture.pair X R n e0 e1) = (w : EReal) := fun g => by
    unfold Mixture.pair
    rw [(hprob g).2, (hprob e0).2, (hprob e1).2]
    exact Mixture.share _ _ _ (hprob g).1 (hprob e0).1 (hprob e1).1
  rw [ShareValue.out_sum, RefValue.resT_at X R I W n o e0 e1 h0 h1]
  refine (Finset.sum_congr rfl fun (c : Fin 16) _ => part_at m X R I W c (hX c) (hR c) (hI c) (hW c) n o e0 e1 h0 h1 hw
    ⟨2 * c.val, by omega⟩ ⟨2 * c.val + 1, by omega⟩ rfl rfl).trans ?_
  refine (ShareValue.sum_named (fun g => ShareValue.term X R (fun d o => W (ix3 g d o)) n o e0 e1 g) e0 e1 hne fun g hg => if_neg hg).trans ?_
  exact congrArg₂ (· + ·) (if_pos (Or.inl rfl)) (if_pos (Or.inr rfl))

/-- The two programs leave the same array, and their arguments as they were. -/
theorem algebraic : Cert.algebraic_KernelIdeal_ReferenceIdeal_pre_routed_KernelIdeal := by
  intro m g m' g' hpre hagree
  refine ⟨_, ?_, (θ_run Cert.ReferenceIdeal.defs _ _).mono (fun _ h => h 0) (Cert.ReferenceIdeal.Value.run (F := Ideal) m' g')⟩
  refine (θ_run Cert.KernelIdeal.defs _ _).mono (fun _ h c => ⟨(h.1 c (4 : Fin 5)).trans ((finalA_out m g c).trans ?_),
    (h.1 c (0 : Fin 5)).trans (finalA_in m g c 0 rfl), (h.1 c (1 : Fin 5)).trans (finalA_in m g c 1 rfl),
    (h.1 c (2 : Fin 5)).trans (finalA_in m g c 2 rfl), (h.1 c (3 : Fin 5)).trans (finalA_in m g c 3 rfl)⟩) (run_main (F := Ideal) m g)
  exact (out_eq m _ _ _ _ hpre (fun c => (hagree c).1) (fun c => (hagree c).2.1) (fun c => (hagree c).2.2.1) (fun c => (hagree c).2.2.2)).trans
    (RefValue.res_eq m' 0).symm

end Cert.Equation

end
-- ==== Proof.lean ====
/-
# The certificate

The runs of the kernel, at words and at extended reals, are `run_main` of the two Launch modules. The reference runs by
its operations' composed terms. That the two results are equal is `Equation.algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.LaunchKernel
public import proofs.«01_k».proof.Proof.LaunchKernelIdeal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_Kernel : Cert.quiescent_Kernel := by
  intro m ρ _
  exact (θ_run Cert.Kernel.defs _ _).mono
    (fun _ h => ⟨fun c => ⟨(h.1 c (0 : Fin 5)).trans (Cert.KernelProof.finalA_in m ρ c 0 rfl), (h.1 c (1 : Fin 5)).trans (Cert.KernelProof.finalA_in m ρ c 1 rfl),
      (h.1 c (2 : Fin 5)).trans (Cert.KernelProof.finalA_in m ρ c 2 rfl), (h.1 c (3 : Fin 5)).trans (Cert.KernelProof.finalA_in m ρ c 3 rfl)⟩, h.2⟩)
    (Cert.KernelProof.run_main (F := Bits) m ρ)

theorem frame_KernelIdeal : Cert.quiescent_KernelIdeal := by
  intro m ρ _
  exact (θ_run Cert.KernelIdeal.defs _ _).mono
    (fun _ h => ⟨fun c => ⟨(h.1 c (0 : Fin 5)).trans (Cert.KernelIdealProof.finalA_in m ρ c 0 rfl), (h.1 c (1 : Fin 5)).trans (Cert.KernelIdealProof.finalA_in m ρ c 1 rfl),
      (h.1 c (2 : Fin 5)).trans (Cert.KernelIdealProof.finalA_in m ρ c 2 rfl), (h.1 c (3 : Fin 5)).trans (Cert.KernelIdealProof.finalA_in m ρ c 3 rfl)⟩, h.2⟩)
    (Cert.KernelIdealProof.run_main (F := Ideal) m ρ)

theorem frame_ReferenceIdeal : Cert.quiescent_ReferenceIdeal := by
  intro m ρ _
  exact (θ_run Cert.ReferenceIdeal.defs _ _).mono (fun r h => ⟨fun c => (h c).2, sem_eq_zero_of_no_sems rfl r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_routed_KernelIdeal.Gen.facts, Cert.Pre_routed_ReferenceIdeal.Gen.facts,
    frame_Kernel, frame_KernelIdeal, fun m ρ _ => frame_KernelIdeal m ρ trivial, frame_ReferenceIdeal, fun m ρ _ => frame_ReferenceIdeal m ρ trivial, trivial,
    Cert.Equation.algebraic⟩

end Cert.Proof

end
